-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_below_mask [hPre_boxes_below_mask : Cert.Pre_boxes_below_mask.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_below_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_boxes_below_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_below_mask [hPre_boxes_below_mask : Cert.Pre_boxes_below_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_below_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_boxes_below_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_boxes_below_mask [hKernelIdeal : Cert.KernelIdeal.Facts] [hPre_boxes_below_mask : Cert.Pre_boxes_below_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_below_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_boxes_below_mask [hReferenceIdeal : Cert.ReferenceIdeal.Facts] [hPre_boxes_below_mask : Cert.Pre_boxes_below_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_below_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_boxes_below_mask [hKernelIdeal : Cert.KernelIdeal.Facts] [hReferenceIdeal : Cert.ReferenceIdeal.Facts] [hPre_boxes_below_mask : Cert.Pre_boxes_below_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_below_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v358) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_boxes_below_mask : Cert.Pre_boxes_below_mask.Facts),
    quiescent_Kernel (hKernel := hKernel)
    ∧ quiescent_KernelIdeal (hKernelIdeal := hKernelIdeal)
    ∧ quiescent_KernelIdeal_pre_boxes_below_mask (hKernelIdeal := hKernelIdeal) (hPre_boxes_below_mask := hPre_boxes_below_mask)
    ∧ quiescent_ReferenceIdeal (hReferenceIdeal := hReferenceIdeal)
    ∧ quiescent_ReferenceIdeal_pre_boxes_below_mask (hReferenceIdeal := hReferenceIdeal) (hPre_boxes_below_mask := hPre_boxes_below_mask)
    ∧ preserves_Kernel_KernelIdeal
    ∧ algebraic_KernelIdeal_ReferenceIdeal_pre_boxes_below_mask (hKernelIdeal := hKernelIdeal) (hReferenceIdeal := hReferenceIdeal) (hPre_boxes_below_mask := hPre_boxes_below_mask)
-- ==== Pre_boxes_below_mask.lean ====
abbrev S4x20000x10 : Shape := ⟨3, ![4, 20000, 10]⟩
abbrev S4x20000x4 : Shape := ⟨3, ![4, 20000, 4]⟩
abbrev S4x20000x64 : Shape := ⟨3, ![4, 20000, 64]⟩
abbrev S20000x4 : Shape := ⟨2, ![20000, 4]⟩
abbrev S4x32x4 : Shape := ⟨3, ![4, 32, 4]⟩
abbrev S4x32 : Shape := ⟨2, ![4, 32]⟩
abbrev S_ : Shape := ⟨0, ![]⟩

class Facts : Prop where
  bcast_S_S20000x4 : S_.BroadcastsInDim S20000x4 (![] : Fin 0 → Fin S20000x4.rank)
  bcast_S_S4x32x4 : S_.BroadcastsInDim S4x32x4 (![] : Fin 0 → Fin S4x32x4.rank)

variable [Facts]

def fn {F : FTy → Type} [FloatOps F] (main_arg0 : FVec F S4x20000x10 .f32) (main_arg1 : FVec F S4x20000x4 .f32) (main_arg2 : FVec F S4x20000x64 .f32) (main_arg3 : FVec F S20000x4 .f32) (main_arg4 : FVec F S4x32x4 .f32) (main_arg5 : IVec S4x32 32) : IVec S20000x4 1 × IVec S4x32x4 1 :=
  let main_v0 : FVec F S20000x4 .f32 := Host.absf main_arg3
  let main_cst : FVec F S_ .f32 := constant S_ .f32 0x7E967699#32
  let main_v1 : FVec F S20000x4 .f32 := broadcastInDim S20000x4 ![] bcast_S_S20000x4 main_cst
  let main_v2 : IVec S20000x4 1 := cmpf .olt main_v0 main_v1
  let main_v3 : FVec F S4x32x4 .f32 := Host.absf main_arg4
  let main_cst_0 : FVec F S_ .f32 := constant S_ .f32 0x7E967699#32
  let main_v4 : FVec F S4x32x4 .f32 := broadcastInDim S4x32x4 ![] bcast_S_S4x32x4 main_cst_0
  let main_v5 : IVec S4x32x4 1 := cmpf .olt main_v3 main_v4
  (main_v2, main_v5)
-- ==== Kernel.lean ====
abbrev S4x20000x10 : Shape := ⟨3, ![4, 20000, 10]⟩
abbrev S4x20000x4 : Shape := ⟨3, ![4, 20000, 4]⟩
abbrev S4x20000x64 : Shape := ⟨3, ![4, 20000, 64]⟩
abbrev S20000x4 : Shape := ⟨2, ![20000, 4]⟩
abbrev S4x32x4 : Shape := ⟨3, ![4, 32, 4]⟩
abbrev S4x32 : Shape := ⟨2, ![4, 32]⟩
abbrev S4x10x20000 : Shape := ⟨3, ![4, 10, 20000]⟩
abbrev S4x4x20000 : Shape := ⟨3, ![4, 4, 20000]⟩
abbrev S4x20000x4x16 : Shape := ⟨4, ![4, 20000, 4, 16]⟩
abbrev S4x4x16x20000 : Shape := ⟨4, ![4, 4, 16, 20000]⟩
abbrev S4x20000 : Shape := ⟨2, ![4, 20000]⟩
abbrev S4x32x1 : Shape := ⟨3, ![4, 32, 1]⟩
abbrev S4x1x8 : Shape := ⟨3, ![4, 1, 8]⟩
abbrev S4x8 : Shape := ⟨2, ![4, 8]⟩
abbrev S_ : Shape := ⟨0, ![]⟩
abbrev S8 : Shape := ⟨1, ![8]⟩
abbrev S1 : Shape := ⟨1, ![1]⟩
abbrev S1x10x20000 : Shape := ⟨3, ![1, 10, 20000]⟩
abbrev S1x4x20000 : Shape := ⟨3, ![1, 4, 20000]⟩
abbrev S1x4x16x20000 : Shape := ⟨4, ![1, 4, 16, 20000]⟩
abbrev S1x32x4 : Shape := ⟨3, ![1, 32, 4]⟩
abbrev S1x32x1 : Shape := ⟨3, ![1, 32, 1]⟩
abbrev S1x1x8 : Shape := ⟨3, ![1, 1, 8]⟩
abbrev S32x4 : Shape := ⟨2, ![32, 4]⟩
abbrev S32x1 : Shape := ⟨2, ![32, 1]⟩
abbrev S1x20000 : Shape := ⟨2, ![1, 20000]⟩
abbrev S32x20000 : Shape := ⟨2, ![32, 20000]⟩
abbrev S32 : Shape := ⟨1, ![32]⟩
abbrev S1x32 : Shape := ⟨2, ![1, 32]⟩
abbrev S9x32 : Shape := ⟨2, ![9, 32]⟩
abbrev S20000 : Shape := ⟨1, ![20000]⟩
abbrev S10x20000 : Shape := ⟨2, ![10, 20000]⟩
abbrev S1x1x1 : Shape := ⟨3, ![1, 1, 1]⟩
abbrev S1x1x20000 : Shape := ⟨3, ![1, 1, 20000]⟩
abbrev S4x16x20000 : Shape := ⟨3, ![4, 16, 20000]⟩
abbrev S4x1x20000 : Shape := ⟨3, ![4, 1, 20000]⟩

abbrev nBuf : Space → Nat
  | .hbm => 41
  | .vmem => 13
  | .smem => 0
  | _ => 0

abbrev bufTy : (tb : Table) → Fin (tcTables nBuf tb) → BufTy
  | .hbm, ⟨0, _⟩ => ⟨S4x20000x10, .f32⟩
  | .hbm, ⟨1, _⟩ => ⟨S4x20000x4, .f32⟩
  | .hbm, ⟨2, _⟩ => ⟨S4x20000x64, .f32⟩
  | .hbm, ⟨3, _⟩ => ⟨S20000x4, .f32⟩
  | .hbm, ⟨4, _⟩ => ⟨S4x32x4, .f32⟩
  | .hbm, ⟨5, _⟩ => ⟨S4x32, .i32⟩
  | .hbm, ⟨6, _⟩ => ⟨S4x10x20000, .f32⟩
  | .hbm, ⟨7, _⟩ => ⟨S4x4x20000, .f32⟩
  | .hbm, ⟨8, _⟩ => ⟨S4x20000x4x16, .f32⟩
  | .hbm, ⟨9, _⟩ => ⟨S4x4x16x20000, .f32⟩
  | .hbm, ⟨10, _⟩ => ⟨S4x20000, .f32⟩
  | .hbm, ⟨11, _⟩ => ⟨S4x32x1, .i32⟩
  | .hbm, ⟨12, _⟩ => ⟨S4x1x8, .f32⟩
  | .hbm, ⟨13, _⟩ => ⟨S4x8, .f32⟩
  | .hbm, ⟨14, _⟩ => ⟨S_, .f32⟩
  | .hbm, ⟨15, _⟩ => ⟨S8, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1x10x20000, .f32⟩
  | .local _ .vmem, ⟨1, _⟩ => ⟨S1x10x20000, .f32⟩
  | .local _ .vmem, ⟨2, _⟩ => ⟨S1x4x20000, .f32⟩
  | .local _ .vmem, ⟨3, _⟩ => ⟨S1x4x20000, .f32⟩
  | .local _ .vmem, ⟨4, _⟩ => ⟨S1x4x16x20000, .f32⟩
  | .local _ .vmem, ⟨5, _⟩ => ⟨S1x4x16x20000, .f32⟩
  | .local _ .vmem, ⟨6, _⟩ => ⟨S4x20000, .f32⟩
  | .local _ .vmem, ⟨7, _⟩ => ⟨S1x32x4, .f32⟩
  | .local _ .vmem, ⟨8, _⟩ => ⟨S1x32x4, .f32⟩
  | .local _ .vmem, ⟨9, _⟩ => ⟨S1x32x1, .i32⟩
  | .local _ .vmem, ⟨10, _⟩ => ⟨S1x32x1, .i32⟩
  | .local _ .vmem, ⟨11, _⟩ => ⟨S1x1x8, .f32⟩
  | .local _ .vmem, ⟨12, _⟩ => ⟨S1x1x8, .f32⟩
  | _, _ => ⟨S4x20000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_0 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_cst_1 : Ref sig .tc := ⟨.hbm, 27, rfl⟩
abbrev main_call0_v19 : Ref sig .tc := ⟨.hbm, 28, rfl⟩
abbrev main_call0_cst_2 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_cst_3 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x16x20000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x20000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x20000x10 : Shape := ⟨3, ![4, 20000, 10]⟩
abbrev S4x20000x4 : Shape := ⟨3, ![4, 20000, 4]⟩
abbrev S4x20000x64 : Shape := ⟨3, ![4, 20000, 64]⟩
abbrev S20000x4 : Shape := ⟨2, ![20000, 4]⟩
abbrev S4x32x4 : Shape := ⟨3, ![4, 32, 4]⟩
abbrev S4x32 : Shape := ⟨2, ![4, 32]⟩
abbrev S20000x2 : Shape := ⟨2, ![20000, 2]⟩
abbrev S20000x1x2 : Shape := ⟨3, ![20000, 1, 2]⟩
abbrev S4x32x2 : Shape := ⟨3, ![4, 32, 2]⟩
abbrev S4x1x32x2 : Shape := ⟨4, ![4, 1, 32, 2]⟩
abbrev S1x20000x1x2 : Shape := ⟨4, ![1, 20000, 1, 2]⟩
abbrev S4x20000x32x2 : Shape := ⟨4, ![4, 20000, 32, 2]⟩
abbrev S_ : Shape := ⟨0, ![]⟩
abbrev S4x20000x32x1 : Shape := ⟨4, ![4, 20000, 32, 1]⟩
abbrev S4x20000x32 : Shape := ⟨3, ![4, 20000, 32]⟩
abbrev S20000x1 : Shape := ⟨2, ![20000, 1]⟩
abbrev S20000 : Shape := ⟨1, ![20000]⟩
abbrev S4x32x1 : Shape := ⟨3, ![4, 32, 1]⟩
abbrev S4x1x32 : Shape := ⟨3, ![4, 1, 32]⟩
abbrev S1x20000x1 : Shape := ⟨3, ![1, 20000, 1]⟩
abbrev S4x32x20000 : Shape := ⟨3, ![4, 32, 20000]⟩
abbrev S4x32x9 : Shape := ⟨3, ![4, 32, 9]⟩
abbrev S4x32x9x1 : Shape := ⟨4, ![4, 32, 9, 1]⟩
abbrev S1 : Shape := ⟨1, ![1]⟩
abbrev S1x1x1x1 : Shape := ⟨4, ![1, 1, 1, 1]⟩
abbrev S32 : Shape := ⟨1, ![32]⟩
abbrev S1x32 : Shape := ⟨2, ![1, 32]⟩
abbrev S20000x32 : Shape := ⟨2, ![20000, 32]⟩
abbrev S4x20000 : Shape := ⟨2, ![4, 20000]⟩
abbrev S4x20000x1 : Shape := ⟨3, ![4, 20000, 1]⟩
abbrev S4x20000x1x1 : Shape := ⟨4, ![4, 20000, 1, 1]⟩
abbrev S1x1x1 : Shape := ⟨3, ![1, 1, 1]⟩
abbrev S1x1x10 : Shape := ⟨3, ![1, 1, 10]⟩
abbrev S4x20000x4x16 : Shape := ⟨4, ![4, 20000, 4, 16]⟩
abbrev S4x20000x4x1 : Shape := ⟨4, ![4, 20000, 4, 1]⟩
abbrev S4x20000x4x1x1 : Shape := ⟨5, ![4, 20000, 4, 1, 1]⟩
abbrev S1x1x1x1x1 : Shape := ⟨5, ![1, 1, 1, 1, 1]⟩
abbrev S1x20000 : Shape := ⟨2, ![1, 20000]⟩
abbrev S4x20000x2 : Shape := ⟨3, ![4, 20000, 2]⟩

abbrev nBuf : Space → Nat
  | .hbm => 619
  | .vmem => 0
  | .smem => 0
  | _ => 0

abbrev hbmTy0_0 (i : Nat) : BufTy := match i % 128 with
  | 0 => ⟨S4x20000x10, .f32⟩
  | 1 => ⟨S4x20000x4, .f32⟩
  | 2 => ⟨S4x20000x64, .f32⟩
  | 3 => ⟨S20000x4, .f32⟩
  | 4 => ⟨S4x32x4, .f32⟩
  | 5 => ⟨S4x32, .i32⟩
  | 6 => ⟨S20000x2, .f32⟩
  | 7 => ⟨S20000x1x2, .f32⟩
  | 8 => ⟨S4x32x2, .f32⟩
  | 9 => ⟨S4x1x32x2, .f32⟩
  | 10 => ⟨S1x20000x1x2, .f32⟩
  | 11 => ⟨S4x20000x32x2, .f32⟩
  | 12 => ⟨S4x20000x32x2, .f32⟩
  | 13 => ⟨S4x20000x32x2, .f32⟩
  | 14 => ⟨S20000x2, .f32⟩
  | 15 => ⟨S20000x1x2, .f32⟩
  | 16 => ⟨S4x32x2, .f32⟩
  | 17 => ⟨S4x1x32x2, .f32⟩
  | 18 => ⟨S1x20000x1x2, .f32⟩
  | 19 => ⟨S4x20000x32x2, .f32⟩
  | 20 => ⟨S4x20000x32x2, .f32⟩
  | 21 => ⟨S4x20000x32x2, .f32⟩
  | 22 => ⟨S4x20000x32x2, .f32⟩
  | 23 => ⟨S_, .f32⟩
  | 24 => ⟨S_, .f32⟩
  | 25 => ⟨S4x20000x32x2, .f32⟩
  | 26 => ⟨S4x20000x32x2, .f32⟩
  | 27 => ⟨S4x20000x32x1, .f32⟩
  | 28 => ⟨S4x20000x32, .f32⟩
  | 29 => ⟨S4x20000x32x1, .f32⟩
  | 30 => ⟨S4x20000x32, .f32⟩
  | 31 => ⟨S4x20000x32, .f32⟩
  | 32 => ⟨S20000x1, .f32⟩
  | 33 => ⟨S20000, .f32⟩
  | 34 => ⟨S20000x1, .f32⟩
  | 35 => ⟨S20000, .f32⟩
  | 36 => ⟨S20000, .f32⟩
  | 37 => ⟨S20000x1, .f32⟩
  | 38 => ⟨S20000, .f32⟩
  | 39 => ⟨S20000x1, .f32⟩
  | 40 => ⟨S20000, .f32⟩
  | 41 => ⟨S20000, .f32⟩
  | 42 => ⟨S20000, .f32⟩
  | 43 => ⟨S4x32x1, .f32⟩
  | 44 => ⟨S4x32, .f32⟩
  | 45 => ⟨S4x32x1, .f32⟩
  | 46 => ⟨S4x32, .f32⟩
  | 47 => ⟨S4x32, .f32⟩
  | 48 => ⟨S4x32x1, .f32⟩
  | 49 => ⟨S4x32, .f32⟩
  | 50 => ⟨S4x32x1, .f32⟩
  | 51 => ⟨S4x32, .f32⟩
  | 52 => ⟨S4x32, .f32⟩
  | 53 => ⟨S4x32, .f32⟩
  | 54 => ⟨S20000x1, .f32⟩
  | 55 => ⟨S4x1x32, .f32⟩
  | 56 => ⟨S1x20000x1, .f32⟩
  | 57 => ⟨S4x20000x32, .f32⟩
  | 58 => ⟨S4x20000x32, .f32⟩
  | 59 => ⟨S4x20000x32, .f32⟩
  | 60 => ⟨S4x20000x32, .f32⟩
  | 61 => ⟨S4x20000x32, .f32⟩
  | 62 => ⟨S20000x2, .f32⟩
  | 63 => ⟨S20000x2, .f32⟩
  | 64 => ⟨S20000x2, .f32⟩
  | 65 => ⟨S_, .f32⟩
  | 66 => ⟨S20000x2, .f32⟩
  | 67 => ⟨S20000x2, .f32⟩
  | 68 => ⟨S4x32x2, .f32⟩
  | 69 => ⟨S4x32x2, .f32⟩
  | 70 => ⟨S4x32x2, .f32⟩
  | 71 => ⟨S_, .f32⟩
  | 72 => ⟨S4x32x2, .f32⟩
  | 73 => ⟨S4x32x2, .f32⟩
  | 74 => ⟨S20000x1x2, .f32⟩
  | 75 => ⟨S4x1x32x2, .f32⟩
  | 76 => ⟨S1x20000x1x2, .f32⟩
  | 77 => ⟨S4x20000x32x2, .f32⟩
  | 78 => ⟨S4x20000x32x2, .f32⟩
  | 79 => ⟨S4x20000x32x2, .f32⟩
  | 80 => ⟨S4x20000x32x2, .f32⟩
  | 81 => ⟨S_, .f32⟩
  | 82 => ⟨S4x20000x32, .f32⟩
  | 83 => ⟨S4x20000x32, .f32⟩
  | 84 => ⟨S4x32x20000, .f32⟩
  | 85 => ⟨S4x32x20000, .f32⟩
  | 86 => ⟨S4x32x9, .f32⟩
  | 87 => ⟨S4x32x9, .i32⟩
  | 88 => ⟨S4x32x20000, .f32⟩
  | 89 => ⟨S_, .i32⟩
  | 90 => ⟨S4x32x9, .i32⟩
  | 91 => ⟨S4x32x9, .i1⟩
  | 92 => ⟨S_, .i32⟩
  | 93 => ⟨S4x32x9, .i32⟩
  | 94 => ⟨S4x32x9, .i32⟩
  | 95 => ⟨S4x32x9, .i32⟩
  | 96 => ⟨S4x32x9x1, .i32⟩
  | 97 => ⟨S1, .i32⟩
  | 98 => ⟨S_, .i32⟩
  | 99 => ⟨S4x32x9x1, .i32⟩
  | 100 => ⟨S4x32x9x1, .i1⟩
  | 101 => ⟨S1x1x1x1, .i32⟩
  | 102 => ⟨S4x32x9x1, .i32⟩
  | 103 => ⟨S4x32x9x1, .i1⟩
  | 104 => ⟨S4x32x9x1, .i1⟩
  | 105 => ⟨S_, .i1⟩
  | 106 => ⟨S4x32x9, .i1⟩
  | 107 => ⟨S4x32x9, .f32⟩
  | 108 => ⟨S_, .f32⟩
  | 109 => ⟨S4x32x9, .f32⟩
  | 110 => ⟨S4x32x9, .f32⟩
  | 111 => ⟨S_, .f32⟩
  | 112 => ⟨S4x32, .f32⟩
  | 113 => ⟨S_, .f32⟩
  | 114 => ⟨S4x32, .f32⟩
  | 115 => ⟨S4x32, .f32⟩
  | 116 => ⟨S_, .i32⟩
  | 117 => ⟨S_, .f32⟩
  | 118 => ⟨S4x32, .f32⟩
  | 119 => ⟨S4x32x1, .f32⟩
  | 120 => ⟨S_, .f32⟩
  | 121 => ⟨S4x32x1, .f32⟩
  | 122 => ⟨S4x32x1, .f32⟩
  | 123 => ⟨S4x32x9, .f32⟩
  | 124 => ⟨S4x32x9, .f32⟩
  | 125 => ⟨S4x32x9, .f32⟩
  | 126 => ⟨S_, .f32⟩
  | 127 => ⟨S_, .f32⟩
  | _ => ⟨S4x20000x10, .f32⟩

abbrev hbmTy0_1 (i : Nat) : BufTy := match i % 128 with
  | 0 => ⟨S_, .f32⟩
  | 1 => ⟨S_, .f32⟩
  | 2 => ⟨S4x32, .f32⟩
  | 3 => ⟨S4x32, .f32⟩
  | 4 => ⟨S4x32, .f32⟩
  | 5 => ⟨S_, .f32⟩
  | 6 => ⟨S_, .i1⟩
  | 7 => ⟨S_, .f32⟩
  | 8 => ⟨S_, .f32⟩
  | 9 => ⟨S32, .f32⟩
  | 10 => ⟨S4x32, .f32⟩
  | 11 => ⟨S4x32, .f32⟩
  | 12 => ⟨S4x32, .f32⟩
  | 13 => ⟨S4x32, .f32⟩
  | 14 => ⟨S4x1x32, .f32⟩
  | 15 => ⟨S4x20000x32, .f32⟩
  | 16 => ⟨S4x20000x32, .i1⟩
  | 17 => ⟨S20000x1, .f32⟩
  | 18 => ⟨S20000, .f32⟩
  | 19 => ⟨S20000x1, .f32⟩
  | 20 => ⟨S20000, .f32⟩
  | 21 => ⟨S20000, .f32⟩
  | 22 => ⟨S_, .f32⟩
  | 23 => ⟨S20000, .f32⟩
  | 24 => ⟨S20000, .f32⟩
  | 25 => ⟨S20000x1, .f32⟩
  | 26 => ⟨S20000, .f32⟩
  | 27 => ⟨S20000x1, .f32⟩
  | 28 => ⟨S20000, .f32⟩
  | 29 => ⟨S20000, .f32⟩
  | 30 => ⟨S_, .f32⟩
  | 31 => ⟨S20000, .f32⟩
  | 32 => ⟨S20000, .f32⟩
  | 33 => ⟨S20000x1, .f32⟩
  | 34 => ⟨S4x32x1, .f32⟩
  | 35 => ⟨S4x32, .f32⟩
  | 36 => ⟨S4x1x32, .f32⟩
  | 37 => ⟨S1x20000x1, .f32⟩
  | 38 => ⟨S4x20000x32, .f32⟩
  | 39 => ⟨S4x20000x32, .f32⟩
  | 40 => ⟨S4x20000x32, .i1⟩
  | 41 => ⟨S20000x1, .f32⟩
  | 42 => ⟨S4x32x1, .f32⟩
  | 43 => ⟨S4x32, .f32⟩
  | 44 => ⟨S4x1x32, .f32⟩
  | 45 => ⟨S1x20000x1, .f32⟩
  | 46 => ⟨S4x20000x32, .f32⟩
  | 47 => ⟨S4x20000x32, .f32⟩
  | 48 => ⟨S4x20000x32, .i1⟩
  | 49 => ⟨S4x20000x32, .i1⟩
  | 50 => ⟨S20000x1, .f32⟩
  | 51 => ⟨S4x32x1, .f32⟩
  | 52 => ⟨S4x32, .f32⟩
  | 53 => ⟨S4x1x32, .f32⟩
  | 54 => ⟨S1x20000x1, .f32⟩
  | 55 => ⟨S4x20000x32, .f32⟩
  | 56 => ⟨S4x20000x32, .f32⟩
  | 57 => ⟨S4x20000x32, .i1⟩
  | 58 => ⟨S4x20000x32, .i1⟩
  | 59 => ⟨S20000x1, .f32⟩
  | 60 => ⟨S4x32x1, .f32⟩
  | 61 => ⟨S4x32, .f32⟩
  | 62 => ⟨S4x1x32, .f32⟩
  | 63 => ⟨S1x20000x1, .f32⟩
  | 64 => ⟨S4x20000x32, .f32⟩
  | 65 => ⟨S4x20000x32, .f32⟩
  | 66 => ⟨S4x20000x32, .i1⟩
  | 67 => ⟨S4x20000x32, .i1⟩
  | 68 => ⟨S4x20000x32, .i1⟩
  | 69 => ⟨S32, .i32⟩
  | 70 => ⟨S1x32, .i32⟩
  | 71 => ⟨S_, .i32⟩
  | 72 => ⟨S_, .i32⟩
  | 73 => ⟨S20000x32, .i32⟩
  | 74 => ⟨S20000x32, .i32⟩
  | 75 => ⟨S4x20000x32, .i32⟩
  | 76 => ⟨S4x20000x32, .i32⟩
  | 77 => ⟨S4x20000x32, .i32⟩
  | 78 => ⟨S_, .i32⟩
  | 79 => ⟨S4x20000, .i32⟩
  | 80 => ⟨S_, .i32⟩
  | 81 => ⟨S4x20000, .i32⟩
  | 82 => ⟨S4x20000, .i1⟩
  | 83 => ⟨S_, .i32⟩
  | 84 => ⟨S_, .i32⟩
  | 85 => ⟨S4x20000, .i32⟩
  | 86 => ⟨S4x20000, .i32⟩
  | 87 => ⟨S4x20000x1, .i32⟩
  | 88 => ⟨S_, .i32⟩
  | 89 => ⟨S4x20000x1, .i32⟩
  | 90 => ⟨S4x20000x1, .i1⟩
  | 91 => ⟨S_, .i32⟩
  | 92 => ⟨S4x20000x1, .i32⟩
  | 93 => ⟨S4x20000x1, .i32⟩
  | 94 => ⟨S4x20000x1, .i32⟩
  | 95 => ⟨S4x20000x1x1, .i32⟩
  | 96 => ⟨S1, .i32⟩
  | 97 => ⟨S_, .i32⟩
  | 98 => ⟨S4x20000x1x1, .i32⟩
  | 99 => ⟨S4x20000x1x1, .i1⟩
  | 100 => ⟨S1x1x1x1, .i32⟩
  | 101 => ⟨S4x20000x1x1, .i32⟩
  | 102 => ⟨S4x20000x1x1, .i1⟩
  | 103 => ⟨S4x20000x1x1, .i1⟩
  | 104 => ⟨S_, .i1⟩
  | 105 => ⟨S4x20000x1, .i1⟩
  | 106 => ⟨S4x20000x1, .f32⟩
  | 107 => ⟨S_, .f32⟩
  | 108 => ⟨S4x20000x1, .f32⟩
  | 109 => ⟨S4x20000x1, .f32⟩
  | 110 => ⟨S4x20000, .f32⟩
  | 111 => ⟨S_, .f32⟩
  | 112 => ⟨S_, .f32⟩
  | 113 => ⟨S20000, .f32⟩
  | 114 => ⟨S4x20000, .f32⟩
  | 115 => ⟨S4x20000, .f32⟩
  | 116 => ⟨S_, .i32⟩
  | 117 => ⟨S4x20000, .i32⟩
  | 118 => ⟨S4x20000, .i1⟩
  | 119 => ⟨S_, .i32⟩
  | 120 => ⟨S_, .i32⟩
  | 121 => ⟨S4x20000, .i32⟩
  | 122 => ⟨S4x20000, .i32⟩
  | 123 => ⟨S_, .i32⟩
  | 124 => ⟨S4x20000, .i32⟩
  | 125 => ⟨S4x20000, .i1⟩
  | 126 => ⟨S_, .i32⟩
  | 127 => ⟨S4x20000, .i32⟩
  | _ => ⟨S4x20000x10, .f32⟩

abbrev hbmTy0_2 (i : Nat) : BufTy := match i % 128 with
  | 0 => ⟨S4x20000, .i32⟩
  | 1 => ⟨S4x20000, .i32⟩
  | 2 => ⟨S4x20000x1, .i32⟩
  | 3 => ⟨S1, .i32⟩
  | 4 => ⟨S_, .i32⟩
  | 5 => ⟨S4x20000x1, .i32⟩
  | 6 => ⟨S4x20000x1, .i1⟩
  | 7 => ⟨S1x1x1, .i32⟩
  | 8 => ⟨S4x20000x1, .i32⟩
  | 9 => ⟨S4x20000x1, .i1⟩
  | 10 => ⟨S4x20000x1, .i1⟩
  | 11 => ⟨S_, .i1⟩
  | 12 => ⟨S4x20000, .i1⟩
  | 13 => ⟨S4x20000, .i32⟩
  | 14 => ⟨S_, .i32⟩
  | 15 => ⟨S4x20000, .i32⟩
  | 16 => ⟨S4x20000, .i32⟩
  | 17 => ⟨S_, .i32⟩
  | 18 => ⟨S_, .i32⟩
  | 19 => ⟨S4x20000, .i32⟩
  | 20 => ⟨S4x20000, .i32⟩
  | 21 => ⟨S4x20000x1, .i32⟩
  | 22 => ⟨S_, .i32⟩
  | 23 => ⟨S4x20000x1, .i32⟩
  | 24 => ⟨S4x20000x1, .i1⟩
  | 25 => ⟨S_, .i32⟩
  | 26 => ⟨S4x20000x1, .i32⟩
  | 27 => ⟨S4x20000x1, .i32⟩
  | 28 => ⟨S4x20000x1, .i32⟩
  | 29 => ⟨S1, .i32⟩
  | 30 => ⟨S_, .i32⟩
  | 31 => ⟨S4x20000x1, .i32⟩
  | 32 => ⟨S4x20000x1, .i1⟩
  | 33 => ⟨S1x1x1, .i32⟩
  | 34 => ⟨S4x20000x1, .i32⟩
  | 35 => ⟨S4x20000x1, .i1⟩
  | 36 => ⟨S4x20000x1, .i1⟩
  | 37 => ⟨S_, .i1⟩
  | 38 => ⟨S4x20000, .i1⟩
  | 39 => ⟨S4x20000x4, .f32⟩
  | 40 => ⟨S4x20000x4, .i1⟩
  | 41 => ⟨S_, .f32⟩
  | 42 => ⟨S4x20000x4, .f32⟩
  | 43 => ⟨S4x20000x4, .f32⟩
  | 44 => ⟨S4x20000x1, .i32⟩
  | 45 => ⟨S1x1x10, .i32⟩
  | 46 => ⟨S4x20000x10, .i32⟩
  | 47 => ⟨S4x20000x10, .i32⟩
  | 48 => ⟨S4x20000x10, .i1⟩
  | 49 => ⟨S4x20000x10, .f32⟩
  | 50 => ⟨S4x20000x10, .f32⟩
  | 51 => ⟨S4x20000x10, .f32⟩
  | 52 => ⟨S_, .f32⟩
  | 53 => ⟨S4x20000x10, .f32⟩
  | 54 => ⟨S4x20000x10, .f32⟩
  | 55 => ⟨S_, .f32⟩
  | 56 => ⟨S4x20000x10, .f32⟩
  | 57 => ⟨S4x20000x10, .f32⟩
  | 58 => ⟨S4x20000x10, .f32⟩
  | 59 => ⟨S_, .f32⟩
  | 60 => ⟨S4x20000x10, .f32⟩
  | 61 => ⟨S4x20000x10, .f32⟩
  | 62 => ⟨S_, .f32⟩
  | 63 => ⟨S4x20000x10, .f32⟩
  | 64 => ⟨S4x20000x10, .f32⟩
  | 65 => ⟨S4x20000x10, .f32⟩
  | 66 => ⟨S4x20000x10, .f32⟩
  | 67 => ⟨S4x20000x1, .f32⟩
  | 68 => ⟨S_, .f32⟩
  | 69 => ⟨S4x20000x10, .f32⟩
  | 70 => ⟨S4x20000x10, .f32⟩
  | 71 => ⟨S4x20000x10, .f32⟩
  | 72 => ⟨S4x20000x10, .f32⟩
  | 73 => ⟨S_, .f32⟩
  | 74 => ⟨S4x20000x1, .f32⟩
  | 75 => ⟨S4x20000x1, .f32⟩
  | 76 => ⟨S4x20000x10, .f32⟩
  | 77 => ⟨S4x20000x10, .f32⟩
  | 78 => ⟨S4x20000x10, .f32⟩
  | 79 => ⟨S4x20000x10, .f32⟩
  | 80 => ⟨S_, .f32⟩
  | 81 => ⟨S4x20000x10, .f32⟩
  | 82 => ⟨S4x20000x10, .f32⟩
  | 83 => ⟨S4x20000x10, .f32⟩
  | 84 => ⟨S4x20000x10, .f32⟩
  | 85 => ⟨S4x20000x10, .f32⟩
  | 86 => ⟨S4x20000x10, .f32⟩
  | 87 => ⟨S4x20000x10, .f32⟩
  | 88 => ⟨S4x20000x10, .f32⟩
  | 89 => ⟨S4x20000x10, .f32⟩
  | 90 => ⟨S4x20000x10, .f32⟩
  | 91 => ⟨S_, .f32⟩
  | 92 => ⟨S_, .f32⟩
  | 93 => ⟨S_, .i32⟩
  | 94 => ⟨S4x20000, .i32⟩
  | 95 => ⟨S4x20000, .i1⟩
  | 96 => ⟨S4x20000, .i32⟩
  | 97 => ⟨S_, .i32⟩
  | 98 => ⟨S_, .i32⟩
  | 99 => ⟨S_, .i32⟩
  | 100 => ⟨S_, .i32⟩
  | 101 => ⟨S_, .f32⟩
  | 102 => ⟨S_, .f32⟩
  | 103 => ⟨S_, .f32⟩
  | 104 => ⟨S4x20000x4, .f32⟩
  | 105 => ⟨S4x20000x4, .f32⟩
  | 106 => ⟨S_, .f32⟩
  | 107 => ⟨S_, .f32⟩
  | 108 => ⟨S_, .f32⟩
  | 109 => ⟨S4x20000x4, .f32⟩
  | 110 => ⟨S4x20000x4, .f32⟩
  | 111 => ⟨S_, .f32⟩
  | 112 => ⟨S4x20000x4, .f32⟩
  | 113 => ⟨S4x20000x4, .f32⟩
  | 114 => ⟨S_, .f32⟩
  | 115 => ⟨S4x20000x4, .f32⟩
  | 116 => ⟨S4x20000x4, .f32⟩
  | 117 => ⟨S4x20000x4, .i32⟩
  | 118 => ⟨S_, .i32⟩
  | 119 => ⟨S_, .i32⟩
  | 120 => ⟨S_, .i32⟩
  | 121 => ⟨S4x20000x4, .i32⟩
  | 122 => ⟨S4x20000x4, .i32⟩
  | 123 => ⟨S_, .i32⟩
  | 124 => ⟨S4x20000x4, .i32⟩
  | 125 => ⟨S4x20000x4, .i32⟩
  | 126 => ⟨S_, .i32⟩
  | 127 => ⟨S4x20000x4, .i32⟩
  | _ => ⟨S4x20000x10, .f32⟩

abbrev hbmTy0_3 (i : Nat) : BufTy := match i % 128 with
  | 0 => ⟨S4x20000x4, .i32⟩
  | 1 => ⟨S4x20000x4, .f32⟩
  | 2 => ⟨S4x20000x4, .f32⟩
  | 3 => ⟨S_, .f32⟩
  | 4 => ⟨S4x20000x4, .f32⟩
  | 5 => ⟨S4x20000x4, .f32⟩
  | 6 => ⟨S4x20000x4x16, .f32⟩
  | 7 => ⟨S_, .f32⟩
  | 8 => ⟨S4x20000x4, .f32⟩
  | 9 => ⟨S_, .f32⟩
  | 10 => ⟨S4x20000x4, .f32⟩
  | 11 => ⟨S4x20000x4, .f32⟩
  | 12 => ⟨S4x20000x4x1, .f32⟩
  | 13 => ⟨S4x20000x4x16, .f32⟩
  | 14 => ⟨S4x20000x4x16, .f32⟩
  | 15 => ⟨S4x20000x4x16, .f32⟩
  | 16 => ⟨S_, .f32⟩
  | 17 => ⟨S4x20000x4, .f32⟩
  | 18 => ⟨S4x20000x4x1, .f32⟩
  | 19 => ⟨S4x20000x4x1, .f32⟩
  | 20 => ⟨S4x20000x4x16, .f32⟩
  | 21 => ⟨S4x20000x4x16, .f32⟩
  | 22 => ⟨S4x20000x4x1, .i32⟩
  | 23 => ⟨S_, .i32⟩
  | 24 => ⟨S4x20000x4x1, .i32⟩
  | 25 => ⟨S4x20000x4x1, .i1⟩
  | 26 => ⟨S_, .i32⟩
  | 27 => ⟨S4x20000x4x1, .i32⟩
  | 28 => ⟨S4x20000x4x1, .i32⟩
  | 29 => ⟨S4x20000x4x1, .i32⟩
  | 30 => ⟨S4x20000x4x1x1, .i32⟩
  | 31 => ⟨S1, .i32⟩
  | 32 => ⟨S_, .i32⟩
  | 33 => ⟨S4x20000x4x1x1, .i32⟩
  | 34 => ⟨S4x20000x4x1x1, .i1⟩
  | 35 => ⟨S1x1x1x1x1, .i32⟩
  | 36 => ⟨S4x20000x4x1x1, .i32⟩
  | 37 => ⟨S4x20000x4x1x1, .i1⟩
  | 38 => ⟨S4x20000x4x1x1, .i1⟩
  | 39 => ⟨S_, .i1⟩
  | 40 => ⟨S4x20000x4x1, .i1⟩
  | 41 => ⟨S4x20000x4x1, .f32⟩
  | 42 => ⟨S_, .f32⟩
  | 43 => ⟨S4x20000x4x1, .f32⟩
  | 44 => ⟨S4x20000x4x1, .f32⟩
  | 45 => ⟨S4x20000x4, .f32⟩
  | 46 => ⟨S4x20000x4x1, .i32⟩
  | 47 => ⟨S_, .i32⟩
  | 48 => ⟨S4x20000x4x1, .i32⟩
  | 49 => ⟨S4x20000x4x1, .i1⟩
  | 50 => ⟨S_, .i32⟩
  | 51 => ⟨S4x20000x4x1, .i32⟩
  | 52 => ⟨S4x20000x4x1, .i32⟩
  | 53 => ⟨S4x20000x4x1, .i32⟩
  | 54 => ⟨S4x20000x4x1x1, .i32⟩
  | 55 => ⟨S1, .i32⟩
  | 56 => ⟨S_, .i32⟩
  | 57 => ⟨S4x20000x4x1x1, .i32⟩
  | 58 => ⟨S4x20000x4x1x1, .i1⟩
  | 59 => ⟨S1x1x1x1x1, .i32⟩
  | 60 => ⟨S4x20000x4x1x1, .i32⟩
  | 61 => ⟨S4x20000x4x1x1, .i1⟩
  | 62 => ⟨S4x20000x4x1x1, .i1⟩
  | 63 => ⟨S_, .i1⟩
  | 64 => ⟨S4x20000x4x1, .i1⟩
  | 65 => ⟨S4x20000x4x1, .f32⟩
  | 66 => ⟨S_, .f32⟩
  | 67 => ⟨S4x20000x4x1, .f32⟩
  | 68 => ⟨S4x20000x4x1, .f32⟩
  | 69 => ⟨S4x20000x4, .f32⟩
  | 70 => ⟨S4x20000x4, .f32⟩
  | 71 => ⟨S4x20000x4, .f32⟩
  | 72 => ⟨S4x20000x4, .f32⟩
  | 73 => ⟨S4x20000x4, .f32⟩
  | 74 => ⟨S4x20000x1, .i1⟩
  | 75 => ⟨S4x20000x1, .f32⟩
  | 76 => ⟨S4x20000x4, .f32⟩
  | 77 => ⟨S4x20000x4, .f32⟩
  | 78 => ⟨S4x20000, .i32⟩
  | 79 => ⟨S_, .i32⟩
  | 80 => ⟨S_, .i32⟩
  | 81 => ⟨S_, .f32⟩
  | 82 => ⟨S_, .f32⟩
  | 83 => ⟨S_, .i32⟩
  | 84 => ⟨S_, .i32⟩
  | 85 => ⟨S_, .i32⟩
  | 86 => ⟨S_, .i32⟩
  | 87 => ⟨S_, .f32⟩
  | 88 => ⟨S_, .f32⟩
  | 89 => ⟨S20000x1, .f32⟩
  | 90 => ⟨S20000, .f32⟩
  | 91 => ⟨S20000x1, .f32⟩
  | 92 => ⟨S20000, .f32⟩
  | 93 => ⟨S20000, .f32⟩
  | 94 => ⟨S20000x1, .f32⟩
  | 95 => ⟨S20000, .f32⟩
  | 96 => ⟨S20000x1, .f32⟩
  | 97 => ⟨S20000, .f32⟩
  | 98 => ⟨S20000, .f32⟩
  | 99 => ⟨S20000x1, .f32⟩
  | 100 => ⟨S20000, .f32⟩
  | 101 => ⟨S_, .f32⟩
  | 102 => ⟨S20000, .f32⟩
  | 103 => ⟨S20000, .f32⟩
  | 104 => ⟨S20000, .f32⟩
  | 105 => ⟨S20000x1, .f32⟩
  | 106 => ⟨S20000, .f32⟩
  | 107 => ⟨S_, .f32⟩
  | 108 => ⟨S20000, .f32⟩
  | 109 => ⟨S20000, .f32⟩
  | 110 => ⟨S20000, .f32⟩
  | 111 => ⟨S4x20000x1, .f32⟩
  | 112 => ⟨S4x20000, .f32⟩
  | 113 => ⟨S4x20000x1, .f32⟩
  | 114 => ⟨S4x20000, .f32⟩
  | 115 => ⟨S4x20000x1, .f32⟩
  | 116 => ⟨S4x20000, .f32⟩
  | 117 => ⟨S4x20000x1, .f32⟩
  | 118 => ⟨S4x20000, .f32⟩
  | 119 => ⟨S1x20000, .f32⟩
  | 120 => ⟨S4x20000, .f32⟩
  | 121 => ⟨S4x20000, .f32⟩
  | 122 => ⟨S1x20000, .f32⟩
  | 123 => ⟨S4x20000, .f32⟩
  | 124 => ⟨S4x20000, .f32⟩
  | 125 => ⟨S1x20000, .f32⟩
  | 126 => ⟨S4x20000, .f32⟩
  | 127 => ⟨S4x20000, .f32⟩
  | _ => ⟨S4x20000x10, .f32⟩

abbrev hbmTy0_4 (i : Nat) : BufTy := match i % 128 with
  | 0 => ⟨S1x20000, .f32⟩
  | 1 => ⟨S4x20000, .f32⟩
  | 2 => ⟨S4x20000, .f32⟩
  | 3 => ⟨S4x20000, .f32⟩
  | 4 => ⟨S1x20000, .f32⟩
  | 5 => ⟨S4x20000, .f32⟩
  | 6 => ⟨S4x20000, .f32⟩
  | 7 => ⟨S4x20000, .f32⟩
  | 8 => ⟨S1x20000, .f32⟩
  | 9 => ⟨S4x20000, .f32⟩
  | 10 => ⟨S4x20000, .f32⟩
  | 11 => ⟨S_, .f32⟩
  | 12 => ⟨S4x20000, .f32⟩
  | 13 => ⟨S4x20000, .f32⟩
  | 14 => ⟨S4x20000, .f32⟩
  | 15 => ⟨S_, .f32⟩
  | 16 => ⟨S4x20000, .f32⟩
  | 17 => ⟨S4x20000, .f32⟩
  | 18 => ⟨S4x20000, .f32⟩
  | 19 => ⟨S_, .f32⟩
  | 20 => ⟨S4x20000, .f32⟩
  | 21 => ⟨S4x20000, .f32⟩
  | 22 => ⟨S4x20000, .f32⟩
  | 23 => ⟨S_, .f32⟩
  | 24 => ⟨S4x20000, .f32⟩
  | 25 => ⟨S4x20000, .f32⟩
  | 26 => ⟨S4x20000, .f32⟩
  | 27 => ⟨S4x20000x1, .f32⟩
  | 28 => ⟨S4x20000x1, .f32⟩
  | 29 => ⟨S4x20000x1, .f32⟩
  | 30 => ⟨S4x20000x1, .f32⟩
  | 31 => ⟨S4x20000x4, .f32⟩
  | 32 => ⟨S4x20000x2, .f32⟩
  | 33 => ⟨S4x20000x2, .f32⟩
  | 34 => ⟨S4x20000x2, .f32⟩
  | 35 => ⟨S4x20000x2, .f32⟩
  | 36 => ⟨S4x20000x2, .f32⟩
  | 37 => ⟨S4x20000x2, .f32⟩
  | 38 => ⟨S4x20000x2, .f32⟩
  | 39 => ⟨S_, .f32⟩
  | 40 => ⟨S_, .f32⟩
  | 41 => ⟨S4x20000x2, .f32⟩
  | 42 => ⟨S4x20000x2, .f32⟩
  | 43 => ⟨S4x20000x1, .f32⟩
  | 44 => ⟨S4x20000, .f32⟩
  | 45 => ⟨S4x20000x1, .f32⟩
  | 46 => ⟨S4x20000, .f32⟩
  | 47 => ⟨S4x20000, .f32⟩
  | 48 => ⟨S4x20000x1, .f32⟩
  | 49 => ⟨S4x20000, .f32⟩
  | 50 => ⟨S4x20000x1, .f32⟩
  | 51 => ⟨S4x20000, .f32⟩
  | 52 => ⟨S4x20000, .f32⟩
  | 53 => ⟨S4x20000x1, .f32⟩
  | 54 => ⟨S4x20000, .f32⟩
  | 55 => ⟨S4x20000x1, .f32⟩
  | 56 => ⟨S4x20000, .f32⟩
  | 57 => ⟨S4x20000, .f32⟩
  | 58 => ⟨S4x20000, .f32⟩
  | 59 => ⟨S4x20000x1, .f32⟩
  | 60 => ⟨S4x20000, .f32⟩
  | 61 => ⟨S4x20000x1, .f32⟩
  | 62 => ⟨S4x20000, .f32⟩
  | 63 => ⟨S4x20000, .f32⟩
  | 64 => ⟨S4x20000x1, .f32⟩
  | 65 => ⟨S4x20000, .f32⟩
  | 66 => ⟨S4x20000x1, .f32⟩
  | 67 => ⟨S4x20000, .f32⟩
  | 68 => ⟨S4x20000, .f32⟩
  | 69 => ⟨S4x20000, .f32⟩
  | 70 => ⟨S4x20000, .f32⟩
  | 71 => ⟨S4x20000, .f32⟩
  | 72 => ⟨S4x20000, .f32⟩
  | 73 => ⟨S4x20000x2, .f32⟩
  | 74 => ⟨S4x20000x2, .f32⟩
  | 75 => ⟨S4x20000x2, .f32⟩
  | 76 => ⟨S4x20000x2, .f32⟩
  | 77 => ⟨S4x20000x2, .f32⟩
  | 78 => ⟨S4x20000x2, .f32⟩
  | 79 => ⟨S4x20000x2, .f32⟩
  | 80 => ⟨S_, .f32⟩
  | 81 => ⟨S_, .f32⟩
  | 82 => ⟨S4x20000x2, .f32⟩
  | 83 => ⟨S4x20000x2, .f32⟩
  | 84 => ⟨S4x20000x1, .f32⟩
  | 85 => ⟨S4x20000, .f32⟩
  | 86 => ⟨S4x20000x1, .f32⟩
  | 87 => ⟨S4x20000, .f32⟩
  | 88 => ⟨S4x20000, .f32⟩
  | 89 => ⟨S4x20000, .f32⟩
  | 90 => ⟨S4x20000, .f32⟩
  | 91 => ⟨S4x20000, .f32⟩
  | 92 => ⟨S_, .f32⟩
  | 93 => ⟨S4x20000, .f32⟩
  | 94 => ⟨S4x20000, .f32⟩
  | 95 => ⟨S4x20000, .f32⟩
  | 96 => ⟨S4x20000, .f32⟩
  | 97 => ⟨S_, .f32⟩
  | 98 => ⟨S_, .f32⟩
  | 99 => ⟨S_, .i32⟩
  | 100 => ⟨S_, .i32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | _ => ⟨S4x20000x10, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x20000x10, .f32⟩

abbrev bufTy : (tb : Table) → Fin (tcTables nBuf tb) → BufTy
  | .hbm, ⟨i, _⟩ => hbmTy i
  | _, _ => ⟨S4x20000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_0 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_1 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_call1_v0 : Ref sig .tc := ⟨.hbm, 80, rfl⟩
abbrev main_call1_cst : Ref sig .tc := ⟨.hbm, 81, rfl⟩
abbrev main_call1_v1 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_values : Ref sig .tc := ⟨.hbm, 86, rfl⟩
abbrev main_indices : Ref sig .tc := ⟨.hbm, 87, rfl⟩
abbrev main_v72 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_cst : Ref sig .tc := ⟨.hbm, 108, rfl⟩
abbrev main_call2_v14 : Ref sig .tc := ⟨.hbm, 109, rfl⟩
abbrev main_v73 : Ref sig .tc := ⟨.hbm, 110, rfl⟩
abbrev main_cst_2 : Ref sig .tc := ⟨.hbm, 111, rfl⟩
abbrev main_v74 : Ref sig .tc := ⟨.hbm, 112, rfl⟩
abbrev main_cst_3 : Ref sig .tc := ⟨.hbm, 113, rfl⟩
abbrev main_v75 : Ref sig .tc := ⟨.hbm, 114, rfl⟩
abbrev main_v76 : Ref sig .tc := ⟨.hbm, 115, rfl⟩
abbrev main_c : Ref sig .tc := ⟨.hbm, 116, rfl⟩
abbrev main_call3_call0_cst : Ref sig .tc := ⟨.hbm, 117, rfl⟩
abbrev main_call3_call0_v0 : Ref sig .tc := ⟨.hbm, 118, rfl⟩
abbrev main_call3_call0_v1 : Ref sig .tc := ⟨.hbm, 119, rfl⟩
abbrev main_call3_call0_cst_0 : Ref sig .tc := ⟨.hbm, 120, rfl⟩
abbrev main_call3_call0_v2 : Ref sig .tc := ⟨.hbm, 121, rfl⟩
abbrev main_call3_call0_v3 : Ref sig .tc := ⟨.hbm, 122, rfl⟩
abbrev main_call3_call0_v4 : Ref sig .tc := ⟨.hbm, 123, rfl⟩
abbrev main_call3_call0_v5 : Ref sig .tc := ⟨.hbm, 124, rfl⟩
abbrev main_call3_call0_v6 : Ref sig .tc := ⟨.hbm, 125, rfl⟩
abbrev main_call3_call0_v7 : Ref sig .tc := ⟨.hbm, 126, rfl⟩
abbrev main_call3_call0_cst_1 : Ref sig .tc := ⟨.hbm, 127, rfl⟩
abbrev main_call3_call0_v8 : Ref sig .tc := ⟨.hbm, 128, rfl⟩
abbrev main_call3_call0_cst_2 : Ref sig .tc := ⟨.hbm, 129, rfl⟩
abbrev main_call3_call0_v9 : Ref sig .tc := ⟨.hbm, 130, rfl⟩
abbrev main_call3_call0_v10 : Ref sig .tc := ⟨.hbm, 131, rfl⟩
abbrev main_call3_call0_v11 : Ref sig .tc := ⟨.hbm, 132, rfl⟩
abbrev main_call3_call0_cst_3 : Ref sig .tc := ⟨.hbm, 133, rfl⟩
abbrev main_call3_call0_v12 : Ref sig .tc := ⟨.hbm, 134, rfl⟩
abbrev main_call3_call0_cst_4 : Ref sig .tc := ⟨.hbm, 135, rfl⟩
abbrev main_call3_call0_call0_v0 : Ref sig .tc := ⟨.hbm, 136, rfl⟩
abbrev main_call3_call0_call0_v1 : Ref sig .tc := ⟨.hbm, 137, rfl⟩
abbrev main_call3_call0_call0_v2 : Ref sig .tc := ⟨.hbm, 138, rfl⟩
abbrev main_call3_v0 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_4 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_5 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_6 : Ref sig .tc := ⟨.hbm, 199, rfl⟩
abbrev main_call4_v0 : Ref sig .tc := ⟨.hbm, 200, rfl⟩
abbrev main_call4_v1 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_v134 : Ref sig .tc := ⟨.hbm, 205, rfl⟩
abbrev main_c_7 : Ref sig .tc := ⟨.hbm, 206, rfl⟩
abbrev main_v135 : Ref sig .tc := ⟨.hbm, 207, rfl⟩
abbrev main_c_8 : Ref sig .tc := ⟨.hbm, 208, rfl⟩
abbrev main_v136 : Ref sig .tc := ⟨.hbm, 209, rfl⟩
abbrev main_v137 : Ref sig .tc := ⟨.hbm, 210, rfl⟩
abbrev main_c_9 : Ref sig .tc := ⟨.hbm, 211, rfl⟩
abbrev main_call5_v0 : Ref sig .tc := ⟨.hbm, 212, rfl⟩
abbrev main_call5_v1 : Ref sig .tc := ⟨.hbm, 213, rfl⟩
abbrev main_v138 : Ref sig .tc := ⟨.hbm, 214, rfl⟩
abbrev main_v139 : Ref sig .tc := ⟨.hbm, 215, rfl⟩
abbrev main_call6_c : Ref sig .tc := ⟨.hbm, 216, rfl⟩
abbrev main_call6_v0 : Ref sig .tc := ⟨.hbm, 217, rfl⟩
abbrev main_call6_v1 : Ref sig .tc := ⟨.hbm, 218, rfl⟩
abbrev main_call6_c_0 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_call6_v5 : Ref sig .tc := ⟨.hbm, 223, rfl⟩
abbrev main_call6_c_1 : Ref sig .tc := ⟨.hbm, 224, rfl⟩
abbrev main_call6_c_2 : Ref sig .tc := ⟨.hbm, 225, rfl⟩
abbrev main_call6_v6 : Ref sig .tc := ⟨.hbm, 226, rfl⟩
abbrev main_call6_v7 : Ref sig .tc := ⟨.hbm, 227, rfl⟩
abbrev main_call6_v8 : Ref sig .tc := ⟨.hbm, 228, rfl⟩
abbrev main_call6_v9 : Ref sig .tc := ⟨.hbm, 229, rfl⟩
abbrev main_call6_v10 : Ref sig .tc := ⟨.hbm, 230, rfl⟩
abbrev main_call6_v11 : Ref sig .tc := ⟨.hbm, 231, rfl⟩
abbrev main_call6_c_3 : Ref sig .tc := ⟨.hbm, 232, rfl⟩
abbrev main_call6_v12 : Ref sig .tc := ⟨.hbm, 233, rfl⟩
abbrev main_call6_v13 : Ref sig .tc := ⟨.hbm, 234, rfl⟩
abbrev main_call6_cst : Ref sig .tc := ⟨.hbm, 235, rfl⟩
abbrev main_call6_v14 : Ref sig .tc := ⟨.hbm, 236, rfl⟩
abbrev main_v140 : Ref sig .tc := ⟨.hbm, 237, rfl⟩
abbrev main_v141 : Ref sig .tc := ⟨.hbm, 238, rfl⟩
abbrev main_cst_10 : Ref sig .tc := ⟨.hbm, 239, rfl⟩
abbrev main_call7_v0 : Ref sig .tc := ⟨.hbm, 240, rfl⟩
abbrev main_call7_v1 : Ref sig .tc := ⟨.hbm, 241, rfl⟩
abbrev main_call7_v2 : Ref sig .tc := ⟨.hbm, 242, rfl⟩
abbrev main_v142 : Ref sig .tc := ⟨.hbm, 243, rfl⟩
abbrev main_c_11 : Ref sig .tc := ⟨.hbm, 244, rfl⟩
abbrev main_v143 : Ref sig .tc := ⟨.hbm, 245, rfl⟩
abbrev main_v144 : Ref sig .tc := ⟨.hbm, 246, rfl⟩
abbrev main_c_12 : Ref sig .tc := ⟨.hbm, 247, rfl⟩
abbrev main_call8_v0 : Ref sig .tc := ⟨.hbm, 248, rfl⟩
abbrev main_call8_v1 : Ref sig .tc := ⟨.hbm, 249, rfl⟩
abbrev main_v145 : Ref sig .tc := ⟨.hbm, 250, rfl⟩
abbrev main_call9_c : Ref sig .tc := ⟨.hbm, 251, rfl⟩
abbrev main_call9_v0 : Ref sig .tc := ⟨.hbm, 252, rfl⟩
abbrev main_call9_v1 : Ref sig .tc := ⟨.hbm, 253, rfl⟩
abbrev main_call9_c_0 : Ref sig .tc := ⟨.hbm, 254, rfl⟩
abbrev main_call9_v2 : Ref sig .tc := ⟨.hbm, 255, rfl⟩
abbrev main_call9_v3 : Ref sig .tc := ⟨.hbm, 256, rfl⟩
abbrev main_call9_v4 : Ref sig .tc := ⟨.hbm, 257, rfl⟩
abbrev main_call9_v5 : Ref sig .tc := ⟨.hbm, 258, rfl⟩
abbrev main_call9_c_1 : Ref sig .tc := ⟨.hbm, 259, rfl⟩
abbrev main_call9_c_2 : Ref sig .tc := ⟨.hbm, 260, rfl⟩
abbrev main_call9_v6 : Ref sig .tc := ⟨.hbm, 261, rfl⟩
abbrev main_call9_v7 : Ref sig .tc := ⟨.hbm, 262, rfl⟩
abbrev main_call9_v8 : Ref sig .tc := ⟨.hbm, 263, rfl⟩
abbrev main_call9_v9 : Ref sig .tc := ⟨.hbm, 264, rfl⟩
abbrev main_call9_v10 : Ref sig .tc := ⟨.hbm, 265, rfl⟩
abbrev main_call9_v11 : Ref sig .tc := ⟨.hbm, 266, rfl⟩
abbrev main_call9_c_3 : Ref sig .tc := ⟨.hbm, 267, rfl⟩
abbrev main_call9_v12 : Ref sig .tc := ⟨.hbm, 268, rfl⟩
abbrev main_call9_v13 : Ref sig .tc := ⟨.hbm, 269, rfl⟩
abbrev main_call9_c_4 : Ref sig .tc := ⟨.hbm, 270, rfl⟩
abbrev main_call9_v14 : Ref sig .tc := ⟨.hbm, 271, rfl⟩
abbrev main_v146 : Ref sig .tc := ⟨.hbm, 272, rfl⟩
abbrev main_c_13 : Ref sig .tc := ⟨.hbm, 273, rfl⟩
abbrev main_call10_v0 : Ref sig .tc := ⟨.hbm, 274, rfl⟩
abbrev main_call10_v1 : Ref sig .tc := ⟨.hbm, 275, rfl⟩
abbrev main_v147 : Ref sig .tc := ⟨.hbm, 276, rfl⟩
abbrev main_v148 : Ref sig .tc := ⟨.hbm, 277, rfl⟩
abbrev main_call11_c : Ref sig .tc := ⟨.hbm, 278, rfl⟩
abbrev main_call11_v0 : Ref sig .tc := ⟨.hbm, 279, rfl⟩
abbrev main_call11_v1 : Ref sig .tc := ⟨.hbm, 280, rfl⟩
abbrev main_call11_c_0 : Ref sig .tc := ⟨.hbm, 281, rfl⟩
abbrev main_call11_v2 : Ref sig .tc := ⟨.hbm, 282, rfl⟩
abbrev main_call11_v3 : Ref sig .tc := ⟨.hbm, 283, rfl⟩
abbrev main_call11_v4 : Ref sig .tc := ⟨.hbm, 284, rfl⟩
abbrev main_call11_c_1 : Ref sig .tc := ⟨.hbm, 285, rfl⟩
abbrev main_call11_c_2 : Ref sig .tc := ⟨.hbm, 286, rfl⟩
abbrev main_call11_v5 : Ref sig .tc := ⟨.hbm, 287, rfl⟩
abbrev main_call11_v6 : Ref sig .tc := ⟨.hbm, 288, rfl⟩
abbrev main_call11_v7 : Ref sig .tc := ⟨.hbm, 289, rfl⟩
abbrev main_call11_v8 : Ref sig .tc := ⟨.hbm, 290, rfl⟩
abbrev main_call11_v9 : Ref sig .tc := ⟨.hbm, 291, rfl⟩
abbrev main_call11_v10 : Ref sig .tc := ⟨.hbm, 292, rfl⟩
abbrev main_call11_c_3 : Ref sig .tc := ⟨.hbm, 293, rfl⟩
abbrev main_call11_v11 : Ref sig .tc := ⟨.hbm, 294, rfl⟩
abbrev main_call11_v12 : Ref sig .tc := ⟨.hbm, 295, rfl⟩
abbrev main_call11_v13 : Ref sig .tc := ⟨.hbm, 296, rfl⟩
abbrev main_call11_cst : Ref sig .tc := ⟨.hbm, 297, rfl⟩
abbrev main_call11_v14 : Ref sig .tc := ⟨.hbm, 298, rfl⟩
abbrev main_v149 : Ref sig .tc := ⟨.hbm, 299, rfl⟩
abbrev main_call12_v0 : Ref sig .tc := ⟨.hbm, 300, rfl⟩
abbrev main_call12_v1 : Ref sig .tc := ⟨.hbm, 301, rfl⟩
abbrev main_call12_v2 : Ref sig .tc := ⟨.hbm, 302, rfl⟩
abbrev main_call12_v3 : Ref sig .tc := ⟨.hbm, 303, rfl⟩
abbrev main_call12_v4 : Ref sig .tc := ⟨.hbm, 304, rfl⟩
abbrev main_v150 : Ref sig .tc := ⟨.hbm, 305, rfl⟩
abbrev main_v151 : Ref sig .tc := ⟨.hbm, 306, rfl⟩
abbrev main_v152 : Ref sig .tc := ⟨.hbm, 307, rfl⟩
abbrev main_cst_14 : Ref sig .tc := ⟨.hbm, 308, rfl⟩
abbrev main_v153 : Ref sig .tc := ⟨.hbm, 309, rfl⟩
abbrev main_v154 : Ref sig .tc := ⟨.hbm, 310, rfl⟩
abbrev main_cst_15 : Ref sig .tc := ⟨.hbm, 311, rfl⟩
abbrev main_v155 : Ref sig .tc := ⟨.hbm, 312, rfl⟩
abbrev main_v156 : Ref sig .tc := ⟨.hbm, 313, rfl⟩
abbrev main_v157 : Ref sig .tc := ⟨.hbm, 314, rfl⟩
abbrev main_cst_16 : Ref sig .tc := ⟨.hbm, 315, rfl⟩
abbrev main_v158 : Ref sig .tc := ⟨.hbm, 316, rfl⟩
abbrev main_v159 : Ref sig .tc := ⟨.hbm, 317, rfl⟩
abbrev main_cst_17 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_v163 : Ref sig .tc := ⟨.hbm, 322, rfl⟩
abbrev main_v164 : Ref sig .tc := ⟨.hbm, 323, rfl⟩
abbrev main_cst_18 : Ref sig .tc := ⟨.hbm, 324, rfl⟩
abbrev main_v165 : Ref sig .tc := ⟨.hbm, 325, rfl⟩
abbrev main_v166 : Ref sig .tc := ⟨.hbm, 326, rfl⟩
abbrev main_v167 : Ref sig .tc := ⟨.hbm, 327, rfl⟩
abbrev main_v168 : Ref sig .tc := ⟨.hbm, 328, rfl⟩
abbrev main_cst_19 : Ref sig .tc := ⟨.hbm, 329, rfl⟩
abbrev main_v169 : Ref sig .tc := ⟨.hbm, 330, rfl⟩
abbrev main_v170 : Ref sig .tc := ⟨.hbm, 331, rfl⟩
abbrev main_v171 : Ref sig .tc := ⟨.hbm, 332, rfl⟩
abbrev main_v172 : Ref sig .tc := ⟨.hbm, 333, rfl⟩
abbrev main_v173 : Ref sig .tc := ⟨.hbm, 334, rfl⟩
abbrev main_v174 : Ref sig .tc := ⟨.hbm, 335, rfl⟩
abbrev main_cst_20 : Ref sig .tc := ⟨.hbm, 336, rfl⟩
abbrev main_v175 : Ref sig .tc := ⟨.hbm, 337, rfl⟩
abbrev main_v176 : Ref sig .tc := ⟨.hbm, 338, rfl⟩
abbrev main_v177 : Ref sig .tc := ⟨.hbm, 339, rfl⟩
abbrev main_v178 : Ref sig .tc := ⟨.hbm, 340, rfl⟩
abbrev main_v179 : Ref sig .tc := ⟨.hbm, 341, rfl⟩
abbrev main_v180 : Ref sig .tc := ⟨.hbm, 342, rfl⟩
abbrev main_v181 : Ref sig .tc := ⟨.hbm, 343, rfl⟩
abbrev main_v182 : Ref sig .tc := ⟨.hbm, 344, rfl⟩
abbrev main_v183 : Ref sig .tc := ⟨.hbm, 345, rfl⟩
abbrev main_v184 : Ref sig .tc := ⟨.hbm, 346, rfl⟩
abbrev main_cst_21 : Ref sig .tc := ⟨.hbm, 347, rfl⟩
abbrev main_v185 : Ref sig .tc := ⟨.hbm, 348, rfl⟩
abbrev main_c_22 : Ref sig .tc := ⟨.hbm, 349, rfl⟩
abbrev main_v186 : Ref sig .tc := ⟨.hbm, 350, rfl⟩
abbrev main_v187 : Ref sig .tc := ⟨.hbm, 351, rfl⟩
abbrev main_v188 : Ref sig .tc := ⟨.hbm, 352, rfl⟩
abbrev main_c_23 : Ref sig .tc := ⟨.hbm, 353, rfl⟩
abbrev main_v189 : Ref sig .tc := ⟨.hbm, 354, rfl⟩
abbrev main_c_24 : Ref sig .tc := ⟨.hbm, 355, rfl⟩
abbrev main_v190 : Ref sig .tc := ⟨.hbm, 356, rfl⟩
abbrev main_v191 : Ref sig .tc := ⟨.hbm, 357, rfl⟩
abbrev main_v192 : Ref sig .tc := ⟨.hbm, 358, rfl⟩
abbrev main_cst_25 : Ref sig .tc := ⟨.hbm, 359, rfl⟩
abbrev main_v193 : Ref sig .tc := ⟨.hbm, 360, rfl⟩
abbrev main_v194 : Ref sig .tc := ⟨.hbm, 361, rfl⟩
abbrev main_cst_26 : Ref sig .tc := ⟨.hbm, 362, rfl⟩
abbrev main_cst_27 : Ref sig .tc := ⟨.hbm, 363, rfl⟩
abbrev main_call13_v0 : Ref sig .tc := ⟨.hbm, 364, rfl⟩
abbrev main_call13_v1 : Ref sig .tc := ⟨.hbm, 365, rfl⟩
abbrev main_call13_v2 : Ref sig .tc := ⟨.hbm, 366, rfl⟩
abbrev main_call13_v3 : Ref sig .tc := ⟨.hbm, 367, rfl⟩
abbrev main_call13_v4 : Ref sig .tc := ⟨.hbm, 368, rfl⟩
abbrev main_v195 : Ref sig .tc := ⟨.hbm, 369, rfl⟩
abbrev main_cst_28 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_c_29 : Ref sig .tc := ⟨.hbm, 374, rfl⟩
abbrev main_c_30 : Ref sig .tc := ⟨.hbm, 375, rfl⟩
abbrev main_call14_v0 : Ref sig .tc := ⟨.hbm, 376, rfl⟩
abbrev main_call14_v1 : Ref sig .tc := ⟨.hbm, 377, rfl⟩
abbrev main_call14_v2 : Ref sig .tc := ⟨.hbm, 378, rfl⟩
abbrev main_call14_v3 : Ref sig .tc := ⟨.hbm, 379, rfl⟩
abbrev main_call14_v4 : Ref sig .tc := ⟨.hbm, 380, rfl⟩
abbrev main_v199 : Ref sig .tc := ⟨.hbm, 381, rfl⟩
abbrev main_c_31 : Ref sig .tc := ⟨.hbm, 382, rfl⟩
abbrev main_v200 : Ref sig .tc := ⟨.hbm, 383, rfl⟩
abbrev main_v201 : Ref sig .tc := ⟨.hbm, 384, rfl⟩
abbrev main_v202 : Ref sig .tc := ⟨.hbm, 385, rfl⟩
abbrev main_v203 : Ref sig .tc := ⟨.hbm, 386, rfl⟩
abbrev main_cst_32 : Ref sig .tc := ⟨.hbm, 387, rfl⟩
abbrev main_v204 : Ref sig .tc := ⟨.hbm, 388, rfl⟩
abbrev main_v205 : Ref sig .tc := ⟨.hbm, 389, rfl⟩
abbrev main_v206 : Ref sig .tc := ⟨.hbm, 390, rfl⟩
abbrev main_call15_cst : Ref sig .tc := ⟨.hbm, 391, rfl⟩
abbrev main_call15_v0 : Ref sig .tc := ⟨.hbm, 392, rfl⟩
abbrev main_call15_cst_0 : Ref sig .tc := ⟨.hbm, 393, rfl⟩
abbrev main_call15_v1 : Ref sig .tc := ⟨.hbm, 394, rfl⟩
abbrev main_call15_v2 : Ref sig .tc := ⟨.hbm, 395, rfl⟩
abbrev main_call15_v3 : Ref sig .tc := ⟨.hbm, 396, rfl⟩
abbrev main_call15_v4 : Ref sig .tc := ⟨.hbm, 397, rfl⟩
abbrev main_call15_v5 : Ref sig .tc := ⟨.hbm, 398, rfl⟩
abbrev main_call15_v6 : Ref sig .tc := ⟨.hbm, 399, rfl⟩
abbrev main_call15_cst_1 : Ref sig .tc := ⟨.hbm, 400, rfl⟩
abbrev main_call15_v7 : Ref sig .tc := ⟨.hbm, 401, rfl⟩
abbrev main_call15_v8 : Ref sig .tc := ⟨.hbm, 402, rfl⟩
abbrev main_call15_v9 : Ref sig .tc := ⟨.hbm, 403, rfl⟩
abbrev main_call15_v10 : Ref sig .tc := ⟨.hbm, 404, rfl⟩
abbrev main_v207 : Ref sig .tc := ⟨.hbm, 405, rfl⟩
abbrev main_v208 : Ref sig .tc := ⟨.hbm, 406, rfl⟩
abbrev main_call16_c : Ref sig .tc := ⟨.hbm, 407, rfl⟩
abbrev main_call16_v0 : Ref sig .tc := ⟨.hbm, 408, rfl⟩
abbrev main_call16_v1 : Ref sig .tc := ⟨.hbm, 409, rfl⟩
abbrev main_call16_c_0 : Ref sig .tc := ⟨.hbm, 410, rfl⟩
abbrev main_call16_v2 : Ref sig .tc := ⟨.hbm, 411, rfl⟩
abbrev main_call16_v3 : Ref sig .tc := ⟨.hbm, 412, rfl⟩
abbrev main_call16_v4 : Ref sig .tc := ⟨.hbm, 413, rfl⟩
abbrev main_call16_v5 : Ref sig .tc := ⟨.hbm, 414, rfl⟩
abbrev main_call16_c_1 : Ref sig .tc := ⟨.hbm, 415, rfl⟩
abbrev main_call16_c_2 : Ref sig .tc := ⟨.hbm, 416, rfl⟩
abbrev main_call16_v6 : Ref sig .tc := ⟨.hbm, 417, rfl⟩
abbrev main_call16_v7 : Ref sig .tc := ⟨.hbm, 418, rfl⟩
abbrev main_call16_v8 : Ref sig .tc := ⟨.hbm, 419, rfl⟩
abbrev main_call16_v9 : Ref sig .tc := ⟨.hbm, 420, rfl⟩
abbrev main_call16_v10 : Ref sig .tc := ⟨.hbm, 421, rfl⟩
abbrev main_call16_v11 : Ref sig .tc := ⟨.hbm, 422, rfl⟩
abbrev main_call16_c_3 : Ref sig .tc := ⟨.hbm, 423, rfl⟩
abbrev main_call16_v12 : Ref sig .tc := ⟨.hbm, 424, rfl⟩
abbrev main_call16_v13 : Ref sig .tc := ⟨.hbm, 425, rfl⟩
abbrev main_call16_cst : Ref sig .tc := ⟨.hbm, 426, rfl⟩
abbrev main_call16_v14 : Ref sig .tc := ⟨.hbm, 427, rfl⟩
abbrev main_v209 : Ref sig .tc := ⟨.hbm, 428, rfl⟩
abbrev main_v210 : Ref sig .tc := ⟨.hbm, 429, rfl⟩
abbrev main_v211 : Ref sig .tc := ⟨.hbm, 430, rfl⟩
abbrev main_call17_c : Ref sig .tc := ⟨.hbm, 431, rfl⟩
abbrev main_call17_v0 : Ref sig .tc := ⟨.hbm, 432, rfl⟩
abbrev main_call17_v1 : Ref sig .tc := ⟨.hbm, 433, rfl⟩
abbrev main_call17_c_0 : Ref sig .tc := ⟨.hbm, 434, rfl⟩
abbrev main_call17_v2 : Ref sig .tc := ⟨.hbm, 435, rfl⟩
abbrev main_call17_v3 : Ref sig .tc := ⟨.hbm, 436, rfl⟩
abbrev main_call17_v4 : Ref sig .tc := ⟨.hbm, 437, rfl⟩
abbrev main_call17_v5 : Ref sig .tc := ⟨.hbm, 438, rfl⟩
abbrev main_call17_c_1 : Ref sig .tc := ⟨.hbm, 439, rfl⟩
abbrev main_call17_c_2 : Ref sig .tc := ⟨.hbm, 440, rfl⟩
abbrev main_call17_v6 : Ref sig .tc := ⟨.hbm, 441, rfl⟩
abbrev main_call17_v7 : Ref sig .tc := ⟨.hbm, 442, rfl⟩
abbrev main_call17_v8 : Ref sig .tc := ⟨.hbm, 443, rfl⟩
abbrev main_call17_v9 : Ref sig .tc := ⟨.hbm, 444, rfl⟩
abbrev main_call17_v10 : Ref sig .tc := ⟨.hbm, 445, rfl⟩
abbrev main_call17_v11 : Ref sig .tc := ⟨.hbm, 446, rfl⟩
abbrev main_call17_c_3 : Ref sig .tc := ⟨.hbm, 447, rfl⟩
abbrev main_call17_v12 : Ref sig .tc := ⟨.hbm, 448, rfl⟩
abbrev main_call17_v13 : Ref sig .tc := ⟨.hbm, 449, rfl⟩
abbrev main_call17_cst : Ref sig .tc := ⟨.hbm, 450, rfl⟩
abbrev main_call17_v14 : Ref sig .tc := ⟨.hbm, 451, rfl⟩
abbrev main_v212 : Ref sig .tc := ⟨.hbm, 452, rfl⟩
abbrev main_v213 : Ref sig .tc := ⟨.hbm, 453, rfl⟩
abbrev main_v214 : Ref sig .tc := ⟨.hbm, 454, rfl⟩
abbrev main_v215 : Ref sig .tc := ⟨.hbm, 455, rfl⟩
abbrev main_v216 : Ref sig .tc := ⟨.hbm, 456, rfl⟩
abbrev main_v217 : Ref sig .tc := ⟨.hbm, 457, rfl⟩
abbrev main_v218 : Ref sig .tc := ⟨.hbm, 458, rfl⟩
abbrev main_v219 : Ref sig .tc := ⟨.hbm, 459, rfl⟩
abbrev main_v220 : Ref sig .tc := ⟨.hbm, 460, rfl⟩
abbrev main_v221 : Ref sig .tc := ⟨.hbm, 461, rfl⟩
abbrev main_v222 : Ref sig .tc := ⟨.hbm, 462, rfl⟩
abbrev main_c_33 : Ref sig .tc := ⟨.hbm, 463, rfl⟩
abbrev main_v223 : Ref sig .tc := ⟨.hbm, 464, rfl⟩
abbrev main_cst_34 : Ref sig .tc := ⟨.hbm, 465, rfl⟩
abbrev main_v224 : Ref sig .tc := ⟨.hbm, 466, rfl⟩
abbrev main_c_35 : Ref sig .tc := ⟨.hbm, 467, rfl⟩
abbrev main_v225 : Ref sig .tc := ⟨.hbm, 468, rfl⟩
abbrev main_c_36 : Ref sig .tc := ⟨.hbm, 469, rfl⟩
abbrev main_v226 : Ref sig .tc := ⟨.hbm, 470, rfl⟩
abbrev main_v227 : Ref sig .tc := ⟨.hbm, 471, rfl⟩
abbrev main_v228 : Ref sig .tc := ⟨.hbm, 472, rfl⟩
abbrev main_v229 : Ref sig .tc := ⟨.hbm, 473, rfl⟩
abbrev main_v230 : Ref sig .tc := ⟨.hbm, 474, rfl⟩
abbrev main_v231 : Ref sig .tc := ⟨.hbm, 475, rfl⟩
abbrev main_v232 : Ref sig .tc := ⟨.hbm, 476, rfl⟩
abbrev main_v233 : Ref sig .tc := ⟨.hbm, 477, rfl⟩
abbrev main_v234 : Ref sig .tc := ⟨.hbm, 478, rfl⟩
abbrev main_v235 : Ref sig .tc := ⟨.hbm, 479, rfl⟩
abbrev main_v236 : Ref sig .tc := ⟨.hbm, 480, rfl⟩
abbrev main_v237 : Ref sig .tc := ⟨.hbm, 481, rfl⟩
abbrev main_v238 : Ref sig .tc := ⟨.hbm, 482, rfl⟩
abbrev main_v239 : Ref sig .tc := ⟨.hbm, 483, rfl⟩
abbrev main_v240 : Ref sig .tc := ⟨.hbm, 484, rfl⟩
abbrev main_cst_37 : Ref sig .tc := ⟨.hbm, 485, rfl⟩
abbrev main_v241 : Ref sig .tc := ⟨.hbm, 486, rfl⟩
abbrev main_v242 : Ref sig .tc := ⟨.hbm, 487, rfl⟩
abbrev main_v243 : Ref sig .tc := ⟨.hbm, 488, rfl⟩
abbrev main_v244 : Ref sig .tc := ⟨.hbm, 489, rfl⟩
abbrev main_v245 : Ref sig .tc := ⟨.hbm, 490, rfl⟩
abbrev main_cst_38 : Ref sig .tc := ⟨.hbm, 491, rfl⟩
abbrev main_v246 : Ref sig .tc := ⟨.hbm, 492, rfl⟩
abbrev main_v247 : Ref sig .tc := ⟨.hbm, 493, rfl⟩
abbrev main_v248 : Ref sig .tc := ⟨.hbm, 494, rfl⟩
abbrev main_v249 : Ref sig .tc := ⟨.hbm, 495, rfl⟩
abbrev main_v250 : Ref sig .tc := ⟨.hbm, 496, rfl⟩
abbrev main_v251 : Ref sig .tc := ⟨.hbm, 497, rfl⟩
abbrev main_v252 : Ref sig .tc := ⟨.hbm, 498, rfl⟩
abbrev main_v253 : Ref sig .tc := ⟨.hbm, 499, rfl⟩
abbrev main_v254 : Ref sig .tc := ⟨.hbm, 500, rfl⟩
abbrev main_v255 : Ref sig .tc := ⟨.hbm, 501, rfl⟩
abbrev main_v256 : Ref sig .tc := ⟨.hbm, 502, rfl⟩
abbrev main_v257 : Ref sig .tc := ⟨.hbm, 503, rfl⟩
abbrev main_v258 : Ref sig .tc := ⟨.hbm, 504, rfl⟩
abbrev main_v259 : Ref sig .tc := ⟨.hbm, 505, rfl⟩
abbrev main_v260 : Ref sig .tc := ⟨.hbm, 506, rfl⟩
abbrev main_v261 : Ref sig .tc := ⟨.hbm, 507, rfl⟩
abbrev main_v262 : Ref sig .tc := ⟨.hbm, 508, rfl⟩
abbrev main_v263 : Ref sig .tc := ⟨.hbm, 509, rfl⟩
abbrev main_v264 : Ref sig .tc := ⟨.hbm, 510, rfl⟩
abbrev main_v265 : Ref sig .tc := ⟨.hbm, 511, rfl⟩
abbrev main_v266 : Ref sig .tc := ⟨.hbm, 512, rfl⟩
abbrev main_v267 : Ref sig .tc := ⟨.hbm, 513, rfl⟩
abbrev main_v268 : Ref sig .tc := ⟨.hbm, 514, rfl⟩
abbrev main_v269 : Ref sig .tc := ⟨.hbm, 515, rfl⟩
abbrev main_v270 : Ref sig .tc := ⟨.hbm, 516, rfl⟩
abbrev main_v271 : Ref sig .tc := ⟨.hbm, 517, rfl⟩
abbrev main_v272 : Ref sig .tc := ⟨.hbm, 518, rfl⟩
abbrev main_v273 : Ref sig .tc := ⟨.hbm, 519, rfl⟩
abbrev main_v274 : Ref sig .tc := ⟨.hbm, 520, rfl⟩
abbrev main_v275 : Ref sig .tc := ⟨.hbm, 521, rfl⟩
abbrev main_v276 : Ref sig .tc := ⟨.hbm, 522, rfl⟩
abbrev main_cst_39 : Ref sig .tc := ⟨.hbm, 523, rfl⟩
abbrev main_v277 : Ref sig .tc := ⟨.hbm, 524, rfl⟩
abbrev main_v278 : Ref sig .tc := ⟨.hbm, 525, rfl⟩
abbrev main_v279 : Ref sig .tc := ⟨.hbm, 526, rfl⟩
abbrev main_cst_40 : Ref sig .tc := ⟨.hbm, 527, rfl⟩
abbrev main_v280 : Ref sig .tc := ⟨.hbm, 528, rfl⟩
abbrev main_v281 : Ref sig .tc := ⟨.hbm, 529, rfl⟩
abbrev main_v282 : Ref sig .tc := ⟨.hbm, 530, rfl⟩
abbrev main_cst_41 : Ref sig .tc := ⟨.hbm, 531, rfl⟩
abbrev main_v283 : Ref sig .tc := ⟨.hbm, 532, rfl⟩
abbrev main_v284 : Ref sig .tc := ⟨.hbm, 533, rfl⟩
abbrev main_v285 : Ref sig .tc := ⟨.hbm, 534, rfl⟩
abbrev main_cst_42 : Ref sig .tc := ⟨.hbm, 535, rfl⟩
abbrev main_v286 : Ref sig .tc := ⟨.hbm, 536, rfl⟩
abbrev main_v287 : Ref sig .tc := ⟨.hbm, 537, rfl⟩
abbrev main_v288 : Ref sig .tc := ⟨.hbm, 538, rfl⟩
abbrev main_v289 : Ref sig .tc := ⟨.hbm, 539, rfl⟩
abbrev main_v290 : Ref sig .tc := ⟨.hbm, 540, rfl⟩
abbrev main_v291 : Ref sig .tc := ⟨.hbm, 541, rfl⟩
abbrev main_v292 : Ref sig .tc := ⟨.hbm, 542, rfl⟩
abbrev main_v293 : Ref sig .tc := ⟨.hbm, 543, rfl⟩
abbrev main_v294 : Ref sig .tc := ⟨.hbm, 544, rfl⟩
abbrev main_v295 : Ref sig .tc := ⟨.hbm, 545, rfl⟩
abbrev main_v296 : Ref sig .tc := ⟨.hbm, 546, rfl⟩
abbrev main_v297 : Ref sig .tc := ⟨.hbm, 547, rfl⟩
abbrev main_v298 : Ref sig .tc := ⟨.hbm, 548, rfl⟩
abbrev main_v299 : Ref sig .tc := ⟨.hbm, 549, rfl⟩
abbrev main_v300 : Ref sig .tc := ⟨.hbm, 550, rfl⟩
abbrev main_cst_43 : Ref sig .tc := ⟨.hbm, 551, rfl⟩
abbrev main_call18_v0 : Ref sig .tc := ⟨.hbm, 552, rfl⟩
abbrev main_call18_v1 : Ref sig .tc := ⟨.hbm, 553, rfl⟩
abbrev main_v301 : Ref sig .tc := ⟨.hbm, 554, rfl⟩
abbrev main_v302 : Ref sig .tc := ⟨.hbm, 555, rfl⟩
abbrev main_v303 : Ref sig .tc := ⟨.hbm, 556, rfl⟩
abbrev main_v304 : Ref sig .tc := ⟨.hbm, 557, rfl⟩
abbrev main_v305 : Ref sig .tc := ⟨.hbm, 558, rfl⟩
abbrev main_v306 : Ref sig .tc := ⟨.hbm, 559, rfl⟩
abbrev main_v307 : Ref sig .tc := ⟨.hbm, 560, rfl⟩
abbrev main_v308 : Ref sig .tc := ⟨.hbm, 561, rfl⟩
abbrev main_v309 : Ref sig .tc := ⟨.hbm, 562, rfl⟩
abbrev main_v310 : Ref sig .tc := ⟨.hbm, 563, rfl⟩
abbrev main_v311 : Ref sig .tc := ⟨.hbm, 564, rfl⟩
abbrev main_v312 : Ref sig .tc := ⟨.hbm, 565, rfl⟩
abbrev main_v313 : Ref sig .tc := ⟨.hbm, 566, rfl⟩
abbrev main_v314 : Ref sig .tc := ⟨.hbm, 567, rfl⟩
abbrev main_v315 : Ref sig .tc := ⟨.hbm, 568, rfl⟩
abbrev main_v316 : Ref sig .tc := ⟨.hbm, 569, rfl⟩
abbrev main_v317 : Ref sig .tc := ⟨.hbm, 570, rfl⟩
abbrev main_v318 : Ref sig .tc := ⟨.hbm, 571, rfl⟩
abbrev main_v319 : Ref sig .tc := ⟨.hbm, 572, rfl⟩
abbrev main_v320 : Ref sig .tc := ⟨.hbm, 573, rfl⟩
abbrev main_v321 : Ref sig .tc := ⟨.hbm, 574, rfl⟩
abbrev main_v322 : Ref sig .tc := ⟨.hbm, 575, rfl⟩
abbrev main_v323 : Ref sig .tc := ⟨.hbm, 576, rfl⟩
abbrev main_v324 : Ref sig .tc := ⟨.hbm, 577, rfl⟩
abbrev main_v325 : Ref sig .tc := ⟨.hbm, 578, rfl⟩
abbrev main_v326 : Ref sig .tc := ⟨.hbm, 579, rfl⟩
abbrev main_v327 : Ref sig .tc := ⟨.hbm, 580, rfl⟩
abbrev main_v328 : Ref sig .tc := ⟨.hbm, 581, rfl⟩
abbrev main_v329 : Ref sig .tc := ⟨.hbm, 582, rfl⟩
abbrev main_v330 : Ref sig .tc := ⟨.hbm, 583, rfl⟩
abbrev main_v331 : Ref sig .tc := ⟨.hbm, 584, rfl⟩
abbrev main_v332 : Ref sig .tc := ⟨.hbm, 585, rfl⟩
abbrev main_v333 : Ref sig .tc := ⟨.hbm, 586, rfl⟩
abbrev main_v334 : Ref sig .tc := ⟨.hbm, 587, rfl⟩
abbrev main_v335 : Ref sig .tc := ⟨.hbm, 588, rfl⟩
abbrev main_v336 : Ref sig .tc := ⟨.hbm, 589, rfl⟩
abbrev main_v337 : Ref sig .tc := ⟨.hbm, 590, rfl⟩
abbrev main_v338 : Ref sig .tc := ⟨.hbm, 591, rfl⟩
abbrev main_cst_44 : Ref sig .tc := ⟨.hbm, 592, rfl⟩
abbrev main_call19_v0 : Ref sig .tc := ⟨.hbm, 593, rfl⟩
abbrev main_call19_v1 : Ref sig .tc := ⟨.hbm, 594, rfl⟩
abbrev main_v339 : Ref sig .tc := ⟨.hbm, 595, rfl⟩
abbrev main_v340 : Ref sig .tc := ⟨.hbm, 596, rfl⟩
abbrev main_v341 : Ref sig .tc := ⟨.hbm, 597, rfl⟩
abbrev main_v342 : Ref sig .tc := ⟨.hbm, 598, rfl⟩
abbrev main_v343 : Ref sig .tc := ⟨.hbm, 599, rfl⟩
abbrev main_v344 : Ref sig .tc := ⟨.hbm, 600, rfl⟩
abbrev main_v345 : Ref sig .tc := ⟨.hbm, 601, rfl⟩
abbrev main_v346 : Ref sig .tc := ⟨.hbm, 602, rfl⟩
abbrev main_v347 : Ref sig .tc := ⟨.hbm, 603, rfl⟩
abbrev main_cst_45 : Ref sig .tc := ⟨.hbm, 604, rfl⟩
abbrev main_v348 : Ref sig .tc := ⟨.hbm, 605, rfl⟩
abbrev main_v349 : Ref sig .tc := ⟨.hbm, 606, rfl⟩
abbrev main_v350 : Ref sig .tc := ⟨.hbm, 607, rfl⟩
abbrev main_v351 : Ref sig .tc := ⟨.hbm, 608, rfl⟩
abbrev main_cst_46 : Ref sig .tc := ⟨.hbm, 609, rfl⟩
abbrev main_v352 : Ref sig .tc := ⟨.hbm, 610, rfl⟩
abbrev main_c_47 : Ref sig .tc := ⟨.hbm, 611, rfl⟩
abbrev main_v353 : Ref sig .tc := ⟨.hbm, 612, rfl⟩
abbrev main_v354 : Ref sig .tc := ⟨.hbm, 613, rfl⟩
abbrev main_v355 : Ref sig .tc := ⟨.hbm, 614, rfl⟩
abbrev main_v356 : Ref sig .tc := ⟨.hbm, 615, rfl⟩
abbrev main_cst_48 : Ref sig .tc := ⟨.hbm, 616, rfl⟩
abbrev main_v357 : Ref sig .tc := ⟨.hbm, 617, rfl⟩
abbrev main_v358 : Ref sig .tc := ⟨.hbm, 618, rfl⟩

abbrev nD : Nat := 1
abbrev τ : Topo := Topo.v7x

variable {F : FTy → Type} [FloatOps F]
-- ==== Proof.PreFacts.lean ====
/- The side conditions of the precondition's own operations: a scalar spreads to every shape the precondition compares. -/
module

public import proofs.«01_k».proof.Pre_boxes_below_mask

@[expose] public section

namespace Cert.Proof

open Idealize.ShloMosaic

/-- The two broadcasts of a scalar that the precondition makes. -/
theorem preFacts : Cert.Pre_boxes_below_mask.Facts where
  bcast_S_S20000x4 := by decide
  bcast_S_S4x32x4 := by decide

end Cert.Proof

end
-- ==== Proof.Frames.lean ====
/- The frames: each program runs, leaves its arguments as they were and every semaphore at zero. -/
module

public import proofs.«01_k».proof.Defs
public import proofs.«01_k».proof.Proof.PreFacts
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts preFacts

/-- The kernel's frame. -/
theorem frame_k : Cert.quiescent_Kernel := fun m ρ _ => Cert.Kernel.Gen.frame m ρ

/-- The frame of the kernel on extended reals. -/
theorem frame_ki : Cert.quiescent_KernelIdeal := fun m ρ _ => Cert.KernelIdeal.Gen.frame m ρ

/-- The same where the precondition holds. -/
theorem frame_ki_pre : Cert.quiescent_KernelIdeal_pre_boxes_below_mask := fun m ρ _ => Cert.KernelIdeal.Gen.frame m ρ

/-- The reference's frame. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same where the precondition holds. -/
theorem frame_ri_pre : Cert.quiescent_ReferenceIdeal_pre_boxes_below_mask := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Consts.lean ====
/- The constants the two programs write, as extended reals. -/
module

public import Idealize.ShloMosaic.Lib.Pointwise

@[expose] public section

noncomputable section

namespace Cert.Proof

open Idealize.ShloMosaic

theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_nan : Ideal.ofBits .f32 0x7FC00000#32 = ⊥ := by simp [Ideal.ofBits, Ideal.ieee]
theorem bits_half : Ideal.ofBits .f32 0x3F000000#32 = ((1 / 2 : ℝ) : EReal) := by
  simp [Ideal.ofBits, Ideal.ieee, -EReal.coe_mul]; try norm_num
theorem bits_two : Ideal.ofBits .f32 0x40000000#32 = ((2 : ℝ) : EReal) := by
  simp [Ideal.ofBits, Ideal.ieee, -EReal.coe_mul]; try norm_num
theorem bits_four : Ideal.ofBits .f32 0x40800000#32 = ((4 : ℝ) : EReal) := by
  simp [Ideal.ofBits, Ideal.ieee, -EReal.coe_mul]; try norm_num
theorem bits_eight : Ideal.ofBits .f32 0x41000000#32 = ((8 : ℝ) : EReal) := by
  simp [Ideal.ofBits, Ideal.ieee, -EReal.coe_mul]; try norm_num
theorem bits_nine : Ideal.ofBits .f32 0x41100000#32 = ((9 : ℝ) : EReal) := by
  simp [Ideal.ofBits, Ideal.ieee, -EReal.coe_mul]; try norm_num
theorem bits_fifteen : Ideal.ofBits .f32 0x41700000#32 = ((15 : ℝ) : EReal) := by
  simp [Ideal.ofBits, Ideal.ieee, -EReal.coe_mul]; try norm_num
theorem bits_image : Ideal.ofBits .f32 0x44800000#32 = ((1024 : ℝ) : EReal) := by
  simp [Ideal.ofBits, Ideal.ieee, -EReal.coe_mul]; try norm_num
theorem bits_mask : Ideal.ofBits .f32 0x7F7FC99E#32 = ((16763294 * 2 ^ 104 : ℝ) : EReal) := by
  simp [Ideal.ofBits, Ideal.ieee, -EReal.coe_mul]; try norm_num
theorem bits_bound : Ideal.ofBits .f32 0x7E967699#32 = ((9860761 * 2 ^ 103 : ℝ) : EReal) := by
  simp [Ideal.ofBits, Ideal.ieee, -EReal.coe_mul]; try norm_num

end Cert.Proof

end
-- ==== Proof.TopK.lean ====
/- The nearest anchors, one round at a time. A round takes the first position of the least value and writes a mask over
   it; while every value lies below the mask, the positions the rounds take are the first positions of the stable sort
   of the negated values, greatest first. -/
module

public import Idealize.ShloMosaic.Lib.Pointwise
public import Idealize.ShloMosaic.Lib.SortPrefix

@[expose] public section

noncomputable section

namespace Cert.Proof

open Idealize.ShloMosaic

/-- Position `k` holds the least value of `d`, and no earlier position does. -/
def FirstMin {n : ℕ} (d : Fin n → EReal) (k : Fin n) : Prop := ∀ k', d k < d k' ∨ (d k = d k' ∧ k ≤ k')

theorem exists_firstMin {n : ℕ} [NeZero n] (d : Fin n → EReal) : ∃ k, FirstMin d k := by
  obtain ⟨k₀, -, h₀⟩ := Finset.exists_min_image Finset.univ d ⟨0, Finset.mem_univ _⟩
  obtain ⟨k, hk, h⟩ := Finset.exists_min_image (Finset.univ.filter fun k => d k = d k₀) id ⟨k₀, by simp⟩
  simp only [Finset.mem_filter, Finset.mem_univ, true_and, id] at hk h
  refine ⟨k, fun k' => ?_⟩
  rcases (h₀ k' (Finset.mem_univ _)).lt_or_eq with hlt | heq
  · exact Or.inl (hk ▸ hlt)
  · exact Or.inr ⟨hk.trans heq, h k' heq.symm⟩

/-- The first position of the least value. -/
def pick {n : ℕ} [NeZero n] (d : Fin n → EReal) : Fin n := Classical.choose (exists_firstMin d)

theorem pick_firstMin {n : ℕ} [NeZero n] (d : Fin n → EReal) : FirstMin d (pick d) := Classical.choose_spec (exists_firstMin d)

theorem pick_le {n : ℕ} [NeZero n] (d : Fin n → EReal) (k : Fin n) : d (pick d) ≤ d k :=
  (pick_firstMin d k).elim le_of_lt fun h => h.1.le

theorem pick_first {n : ℕ} [NeZero n] (d : Fin n → EReal) (k : Fin n) (h : d k = d (pick d)) : pick d ≤ k :=
  (pick_firstMin d k).elim (fun h' => absurd h'.ne (by simp [h])) fun h => h.2

/-- The values after a round: the mask at the position taken. -/
def masked {n : ℕ} [NeZero n] (big : EReal) (d : Fin n → EReal) : Fin n → EReal := fun k => if k = pick d then big else d k

/-- The values after `r` rounds. -/
def rounds {n : ℕ} [NeZero n] (big : EReal) (d : Fin n → EReal) : ℕ → Fin n → EReal
  | 0 => d
  | r + 1 => masked big (rounds big d r)

/-- The position round `r` takes. -/
def taken {n : ℕ} [NeZero n] (big : EReal) (d : Fin n → EReal) (r : ℕ) : Fin n := pick (rounds big d r)

section
variable {n : ℕ} [NeZero n] (big : EReal) (d : Fin n → EReal)

theorem rounds_old (r : ℕ) (k : Fin n) (h : ∀ i < r, taken big d i ≠ k) : rounds big d r k = d k := by
  induction r with
  | zero => rfl
  | succ r ih =>
    have hk : k ≠ pick (rounds big d r) := fun e => h r (Nat.lt_succ_self r) e.symm
    simp only [rounds, masked, if_neg hk]
    exact ih fun i hi => h i (Nat.lt_succ_of_lt hi)

theorem rounds_taken (r i : ℕ) (hi : i < r) : rounds big d r (taken big d i) = big := by
  induction r with
  | zero => exact absurd hi (Nat.not_lt_zero _)
  | succ r ih =>
    by_cases e : taken big d i = pick (rounds big d r)
    · simp only [rounds, masked, if_pos e]
    · simp only [rounds, masked, if_neg e]
      rcases Nat.lt_succ_iff_lt_or_eq.mp hi with h | h
      · exact ih h
      · subst h; exact absurd rfl e

theorem exists_untaken (r : ℕ) (hr : r < n) : ∃ k : Fin n, ∀ i < r, taken big d i ≠ k := by
  by_contra hcon
  push Not at hcon
  have hsub : (Finset.univ : Finset (Fin n)) ⊆ (Finset.range r).image (taken big d) := fun k _ => by
    obtain ⟨i, hi, e⟩ := hcon k
    exact Finset.mem_image.mpr ⟨i, Finset.mem_range.mpr hi, e⟩
  have h1 := Finset.card_le_card hsub
  have h2 : ((Finset.range r).image (taken big d)).card ≤ r := by
    simpa using Finset.card_image_le (s := Finset.range r) (f := taken big d)
  simp at h1
  omega

variable (hbig : ∀ k, d k < big)
include hbig

theorem taken_new (r : ℕ) (hr : r < n) (i : ℕ) (hi : i < r) : taken big d i ≠ taken big d r := by
  intro e
  obtain ⟨k, hk⟩ := exists_untaken big d r hr
  have h1 := pick_le (rounds big d r) k
  rw [rounds_old big d r k hk] at h1
  have h2 : rounds big d r (pick (rounds big d r)) = big := by
    rw [show pick (rounds big d r) = taken big d i from e.symm]
    exact rounds_taken big d r i hi
  rw [h2] at h1
  exact absurd (hbig k) (not_lt.mpr h1)

theorem taken_old (r : ℕ) (hr : r < n) : rounds big d r (taken big d r) = d (taken big d r) :=
  rounds_old big d r _ fun i hi => taken_new big d hbig r hr i hi

theorem taken_before (r : ℕ) (hr : r < n) (k : Fin n) (hk : ∀ i < r, taken big d i ≠ k) :
    d (taken big d r) < d k ∨ (d (taken big d r) = d k ∧ taken big d r ≤ k) := by
  have h := pick_firstMin (rounds big d r) k
  rw [show pick (rounds big d r) = taken big d r from rfl, taken_old big d hbig r hr, rounds_old big d r k hk] at h
  exact h
end

/-- Where a list's positions increase, a relation and the same one with ties broken by position sort it alike. -/
theorem stableSort_ties {n : ℕ} (B T : Fin n → Fin n → Bool) (hT : ∀ a b, a < b → T b a = false) (l : List (Fin n))
    (hl : l.Pairwise (· < ·)) : stableSort B l = stableSort (fun a b => B a b || T a b) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    simp [hT a b (hl.1 b hb')]

theorem sortedFrom_ties {n : ℕ} (B T : Fin n → Fin n → Bool) (hT : ∀ a b, a < b → T b a = false) :
    sortedFrom B = sortedFrom (fun a b => B a b || T a b) := by
  funext k
  unfold sortedFrom
  have h : sortPositions n B = sortPositions n (fun a b => B a b || T a b) :=
    stableSort_ties B T hT (List.finRange n) (List.pairwise_lt_finRange n)
  rw [List.get_of_eq h]
  rfl

/-- The stable sort by the negated value, greatest first, starts with the positions the rounds take. -/
theorem sortedFrom_eq_taken {n R : ℕ} [NeZero n] (hR : R ≤ n) (big : EReal) (d : Fin n → EReal) (hbig : ∀ k, d k < big)
    (i : Fin R) : sortedFrom (fun k k' : Fin n => decide (-d k' < -d k)) (i.castLE hR) = taken big d i := by
  rw [sortedFrom_ties _ (fun k k' => decide (-d k = -d k') && decide (k < k')) (fun a b h => by simp [not_lt.mpr h.le])]
  have hB := StrictTotalBefore.of_key_then_position (n := n) (fun a b : EReal => decide (b < a)) (fun k => -d k)
    (fun a => by simp) (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  have key : ∀ (r : ℕ) (_ : r < n) (k : Fin n), (∀ i ≤ r, taken big d i ≠ k) →
      ((decide (-d (taken big d r) < -d k)) || (decide (-d k = -d (taken big d r)) && decide (k < taken big d r))) = false := by
    intro r hr k hk
    simp only [Bool.or_eq_false_iff, decide_eq_false_iff_not, Bool.and_eq_false_iff, EReal.neg_lt_neg_iff, not_lt, neg_inj]
    rcases taken_before big d hbig r hr k fun i hi => hk i hi.le with h | ⟨h, h'⟩
    · exact ⟨h.le, Or.inl h.ne'⟩
    · exact ⟨h.le, Or.inr h'⟩
  refine hB.sortedFrom_eq_of_prefix hR (fun i => taken big d i) ?_ ?_ ?_ i
  · intro i j e
    by_contra hne
    rcases lt_or_gt_of_ne hne with h | h
    · exact taken_new big d hbig j (by omega) i h e
    · exact taken_new big d hbig i (by omega) j h e.symm
  · intro i j hij
    refine key i (by omega) _ fun i' hi' => taken_new big d hbig j (by omega) i' ?_
    exact lt_of_le_of_lt hi' hij
  · intro i p hp
    exact key i (by omega) p fun i' hi' => hp ⟨i', lt_of_le_of_lt hi' i.isLt⟩

end Cert.Proof

end
-- ==== Proof.Folds.lean ====
/- What the programs' reductions over a line are: least value, first least position. -/
module

public import proofs.«01_k».proof.Proof.Consts
public import proofs.«01_k».proof.Proof.TopK
public import Idealize.ShloMosaic.Lib.SortNet.Extract

@[expose] public section

noncomputable section

namespace Cert.Proof

open Idealize.ShloMosaic

theorem fold_min_pick {n : ℕ} [NeZero n] (d : Fin n → EReal) :
    Finset.fold min (⊤ : EReal) d Finset.univ = d (pick d) := by
  apply le_antisymm
  · rw [Finset.fold_min_le]; exact .inr ⟨pick d, Finset.mem_univ _, le_rfl⟩
  · rw [Finset.le_fold_min]; exact ⟨le_top, fun x _ => pick_le d x⟩

theorem fold_minsi_spec {ι : Type} [DecidableEq ι] (b : BitVec 32) (f : ι → BitVec 32) (s : Finset ι) :
    (Finset.fold IntOp.minsi b f s).toInt ≤ b.toInt ∧ (∀ x ∈ s, (Finset.fold IntOp.minsi b f s).toInt ≤ (f x).toInt) ∧
      (Finset.fold IntOp.minsi b f s = b ∨ ∃ x ∈ s, Finset.fold IntOp.minsi b f s = f x) := by
  induction s using Finset.induction_on with
  | empty => simp
  | insert a s ha ih =>
    obtain ⟨h1, h2, h3⟩ := ih
    rw [Finset.fold_insert ha]
    have ht := SortNet.toInt_minsi (f a) (Finset.fold IntOp.minsi b f s)
    refine ⟨by rw [ht]; exact (min_le_right _ _).trans h1, ?_, ?_⟩
    · intro x hx
      rw [ht]
      rcases Finset.mem_insert.mp hx with rfl | hx
      · exact min_le_left _ _
      · exact (min_le_right _ _).trans (h2 x hx)
    · by_cases hc : (f a).slt (Finset.fold IntOp.minsi b f s)
      · exact .inr ⟨a, Finset.mem_insert_self _ _, by simp [IntOp.minsi, hc]⟩
      · have he : IntOp.minsi (f a) (Finset.fold IntOp.minsi b f s) = Finset.fold IntOp.minsi b f s := by
          simp [IntOp.minsi, hc]
        rw [he]
        rcases h3 with h3 | ⟨x, hx, h3⟩
        · exact .inl h3
        · exact .inr ⟨x, Finset.mem_insert_of_mem hx, h3⟩

theorem toInt_ofNat_small (k : ℕ) (h : k < 2 ^ 31) : (BitVec.ofNat 32 k).toInt = k := by
  rw [BitVec.toInt_eq_toNat_cond, BitVec.toNat_ofNat, Nat.mod_eq_of_lt (by omega), if_pos (by omega)]

/-- The least position of those holding the least value, as the programs' integer minimum gives it. -/
theorem fold_minsi_pick {n : ℕ} [NeZero n] (hn : n < 2 ^ 31) (d : Fin n → EReal) (far : BitVec 32)
    (hfar : (n : ℤ) ≤ far.toInt) :
    Finset.fold IntOp.minsi (2147483647#32) (fun x : Fin n => if d x = d (pick d) then BitVec.ofNat 32 x else far) Finset.univ
      = BitVec.ofNat 32 (pick d) := by
  obtain ⟨-, h2, h3⟩ := fold_minsi_spec (2147483647#32)
    (fun x : Fin n => if d x = d (pick d) then BitVec.ofNat 32 x else far) Finset.univ
  have h := h2 (pick d) (Finset.mem_univ _)
  generalize Finset.fold IntOp.minsi (2147483647#32)
    (fun x : Fin n => if d x = d (pick d) then BitVec.ofNat 32 x else far) Finset.univ = w at h h3 ⊢
  have hp := (pick d).isLt
  rw [if_pos rfl, toInt_ofNat_small _ (by omega)] at h
  rcases h3 with h3 | ⟨x, -, h3⟩
  · exfalso; rw [h3] at h
    have : (2147483647#32).toInt = 2147483647 := by decide
    omega
  · split_ifs at h3 with hx
    · have hx' := pick_first d x hx
      rw [h3, toInt_ofNat_small _ (by have := x.isLt; omega)] at h
      have : x = pick d := le_antisymm (by rw [Fin.le_def]; omega) hx'
      rw [h3, this]
    · exfalso; rw [h3] at h; omega

theorem ofNat_inj_small {n : ℕ} (hn : n ≤ 2 ^ 32) (a b : Fin n) : (BitVec.ofNat 32 a == BitVec.ofNat 32 b) = decide (a = b) := by
  rw [Bool.eq_iff_iff, beq_iff_eq, decide_eq_true_iff]
  refine ⟨fun h => ?_, fun h => by rw [h]⟩
  have := congrArg BitVec.toNat h
  rw [BitVec.toNat_ofNat, BitVec.toNat_ofNat, Nat.mod_eq_of_lt (by omega), Nat.mod_eq_of_lt (by omega)] at this
  exact Fin.ext this

end Cert.Proof

end
-- ==== Proof.Spec.lean ====
/- The loss of one image, written once in the extended reals: both programs are read into these functions. -/
module

public import proofs.«01_k».proof.Proof.Folds

@[expose] public section

noncomputable section

namespace Cert.Proof

open Idealize.ShloMosaic

/-- A box: its left, upper, right and lower side. -/
abbrev Box : Type := Fin 4 → EReal

abbrev half : EReal := Ideal.ofBits .f32 0x3F000000#32
abbrev big : EReal := Ideal.ofBits .f32 0x7F7FC99E#32

/-- The area two boxes share. -/
def inter (p t : Box) : EReal := max 0 (min (p 2) (t 2) - max (p 0) (t 0)) * max 0 (min (p 3) (t 3) - max (p 1) (t 1))

/-- The area the two boxes cover together. -/
def union (p t : Box) : EReal := (p 2 - p 0) * (p 3 - p 1) + (t 2 - t 0) * (t 3 - t 1) - inter p t

def iou (p t : Box) : EReal := Ideal.div (inter p t) (union p t)

/-- The area of the least box holding both. -/
def hull (p t : Box) : EReal := max 0 (max (p 2) (t 2) - min (p 0) (t 0)) * max 0 (max (p 3) (t 3) - min (p 1) (t 1))

def giou (p t : Box) : EReal := iou p t - Ideal.div (hull p t - union p t) (hull p t)

def cx (p : Box) : EReal := (p 0 + p 2) * half
def cy (p : Box) : EReal := (p 1 + p 3) * half

def dist (p t : Box) : EReal := Ideal.sqrt ((cx p - cx t) * (cx p - cx t) + (cy p - cy t) * (cy p - cy t))

/-- The anchor the `r`-th round takes for the box `t`. -/
def nearest (A : Fin 20000 → Box) (t : Box) (r : ℕ) : Fin 20000 := taken big (fun n => dist (A n) t) r

/-- Mean plus deviation of nine numbers. -/
def meanDev (t : Fin 9 → EReal) : EReal :=
  Ideal.div (∑ r, t r) (Ideal.ofBits .f32 0x41100000#32) +
    Ideal.sqrt (Ideal.div (∑ r, (t r - Ideal.div (∑ r, t r) (Ideal.ofBits .f32 0x41100000#32)) *
      (t r - Ideal.div (∑ r, t r) (Ideal.ofBits .f32 0x41100000#32))) (Ideal.ofBits .f32 0x41000000#32))

def thr (A : Fin 20000 → Box) (t : Box) : EReal := meanDev fun r => iou (A (nearest A t r)) t

/-- Whether the anchor `p` is positive for the box `t`. -/
def good (A : Fin 20000 → Box) (p t : Box) : BitVec 1 :=
  IntOp.andi (BitVec.ofBool (decide (thr A t ≤ iou p t)))
    (IntOp.andi (IntOp.andi (IntOp.andi (BitVec.ofBool (decide (t 0 ≤ cx p))) (BitVec.ofBool (decide (cx p ≤ t 2))))
      (BitVec.ofBool (decide (t 1 ≤ cy p)))) (BitVec.ofBool (decide (cy p ≤ t 3))))

variable (A : Fin 20000 → Box) (G : Fin 32 → Box) (L : Fin 32 → BitVec 32)

/-- The last box the anchor is positive for, or −1. -/
def matchW (n : Fin 20000) : BitVec 32 :=
  Finset.fold IntOp.maxsi (2147483648#32) (fun m : Fin 32 => Scalar.select (good A (A n) (G m)) (BitVec.ofNat 32 m) 4294967295#32)
    Finset.univ

/-- The box an anchor is measured against. -/
def box (n : Fin 20000) : Fin 32 := Fin.ofNat 32 (IntOp.maxsi (matchW A G n) 0#32).toNat

theorem maxsi_matchW (n : Fin 20000) : IntOp.maxsi (matchW A G n) 0#32 = BitVec.ofNat 32 (box A G n) := by
  have h := (SortNet.fold_maxsi_spec
    (fun m : Fin 32 => Scalar.select (good A (A n) (G m)) (BitVec.ofNat 32 m) 4294967295#32) Finset.univ (2147483648#32)).2.2
  have h' : ∃ k : Fin 32, IntOp.maxsi (matchW A G n) 0#32 = BitVec.ofNat 32 k := by
    rcases h with h | ⟨m, -, h⟩
    · exact ⟨0, by unfold matchW; rw [h]; decide⟩
    · unfold matchW
      rw [h]
      have hm : ∀ m : Fin 32, IntOp.maxsi (BitVec.ofNat 32 m) 0#32 = BitVec.ofNat 32 m := by decide
      unfold Scalar.select
      split_ifs
      · exact ⟨m, hm m⟩
      · exact ⟨0, by decide⟩
  obtain ⟨k, hk⟩ := h'
  have : box A G n = k := by
    unfold box; rw [hk]; clear hk; revert k; decide
  rw [this, hk]

def posW (n : Fin 20000) : BitVec 1 := IntOp.cmpi .sge (matchW A G n) 0#32

/-- One for a positive anchor, nought for another. -/
def posF (n : Fin 20000) : EReal := if posW A G n = 1 then 1 else 0

def quality (n : Fin 20000) : EReal := Scalar.select (posW A G n) (iou (A n) (G (box A G n))) 0

def label (n : Fin 20000) : BitVec 32 := Scalar.select (posW A G n) (L (box A G n)) 0#32

/-- One entry of the quality focal loss: logit, target, overlap. -/
def qflTerm (x o q : EReal) : EReal :=
  ((q * (1 - (o * Ideal.logistic x + (1 - o) * (1 - Ideal.logistic x))) +
    (1 - q) * (o * Ideal.logistic x + (1 - o) * (1 - Ideal.logistic x))) *
   (q * (1 - (o * Ideal.logistic x + (1 - o) * (1 - Ideal.logistic x))) +
    (1 - q) * (o * Ideal.logistic x + (1 - o) * (1 - Ideal.logistic x)))) *
  (max x 0 - x * o + Ideal.log1p (Ideal.exp (-(FloatOps.absf (F := Ideal) (φ := .f32) x))))

/-- One where a label names the class, nought elsewhere. -/
def hot (c : Fin 10) (l : BitVec 32) : EReal := if BitVec.ofNat 32 c = l then 1 else 0

/-- A side's place among the bins. -/
def place (t : EReal) : EReal :=
  min 1 (max 0 (Ideal.div t (Ideal.ofBits .f32 0x44800000#32))) * Ideal.ofBits .f32 0x41700000#32

def binW (t : EReal) : BitVec 32 := IntOp.minsi 14#32 (IntOp.maxsi 0#32 (Ideal.fptosi 32 (place t)))

def bin (t : EReal) : Fin 15 := Fin.ofNat 15 (binW t).toNat

theorem binW_eq (t : EReal) : binW t = BitVec.ofNat 32 (bin t) := by
  have h1 := SortNet.toInt_minsi 14#32 (IntOp.maxsi 0#32 (Ideal.fptosi 32 (place t)))
  have h2 := SortNet.toInt_maxsi 0#32 (Ideal.fptosi 32 (place t))
  change (binW t).toInt = _ at h1
  have h3 : (14#32).toInt = 14 := by decide
  have h4 : (0#32).toInt = 0 := by decide
  have h5 : 0 ≤ (binW t).toInt ∧ (binW t).toInt ≤ 14 := by
    rw [h1, h2, h3, h4]
    exact ⟨le_min (by norm_num) (le_max_left _ _), min_le_left _ _⟩
  unfold bin
  generalize binW t = w at h5 ⊢
  have h6 : w.toNat < 15 := by
    rw [BitVec.toInt_eq_toNat_cond] at h5
    have := w.isLt
    split_ifs at h5 <;> omega
  apply BitVec.eq_of_toNat_eq
  rw [BitVec.toNat_ofNat]
  simp only [Fin.val_ofNat]
  omega

def share (t : EReal) : EReal := place t - ((binW t).toInt : ℝ)

def logp (D : Fin 16 → EReal) (j : Fin 16) : EReal := D j - Ideal.log (∑ j, Ideal.exp (D j))

/-- One side's entry of the distribution loss, sign left off. -/
def dflTerm (D : Fin 16 → EReal) (t : EReal) : EReal :=
  (1 - share t) * logp D (bin t).castSucc + share t * logp D (bin t).succ

/-- The box a regression row makes of an anchor. -/
def moved (p : Box) (d : Fin 4 → EReal) : Box :=
  ![(d 0 * (p 2 - p 0) + cx p) - half * (Ideal.exp (d 2) * (p 2 - p 0)),
    (d 1 * (p 3 - p 1) + cy p) - half * (Ideal.exp (d 3) * (p 3 - p 1)),
    (d 0 * (p 2 - p 0) + cx p) + half * (Ideal.exp (d 2) * (p 2 - p 0)),
    (d 1 * (p 3 - p 1) + cy p) + half * (Ideal.exp (d 3) * (p 3 - p 1))]

variable (X : Fin 20000 → Fin 10 → EReal) (D : Fin 20000 → Fin 4 → Fin 16 → EReal) (R : Fin 20000 → Fin 4 → EReal)

/-- The image's sums. -/
def qflSum : EReal := ∑ c, ∑ n, qflTerm (X n c) (hot c (label A G L n)) (quality A G n)
def labelSum : EReal := ∑ n, if IntOp.cmpi .sgt (label A G L n) 0#32 = 1 then (1 : EReal) else 0
def dflSum : EReal := ∑ k, ∑ n, dflTerm (D n k) (G (box A G n) k) * posF A G n
def giouSum : EReal := ∑ n, (1 - giou (moved (A n) (R n)) (G (box A G n))) * posF A G n
def posSum : EReal := ∑ n, posF A G n

end Cert.Proof

end
-- ==== Proof.Loss.lean ====
/- The loss of the whole batch over the six argument arrays. -/
module

public import proofs.«01_k».proof.Proof.Spec
public import proofs.«01_k».proof.KernelIdeal

@[expose] public section

noncomputable section

namespace Cert.Proof

open Idealize.ShloMosaic Cert.KernelIdeal

/-- The arguments as the functions the loss is written in. -/
def aX (a0 : Vec Ideal S4x20000x10 .f32) (b : Fin 4) : Fin 20000 → Fin 10 → EReal := fun n c => a0 (ix3 b n c)
def aR (a1 : Vec Ideal S4x20000x4 .f32) (b : Fin 4) : Fin 20000 → Fin 4 → EReal := fun n k => a1 (ix3 b n k)
def aD (a2 : Vec Ideal S4x20000x64 .f32) (b : Fin 4) : Fin 20000 → Fin 4 → Fin 16 → EReal :=
  fun n k j => a2 (ix3 b n ⟨(k : ℕ) * 16 + j, by omega⟩)
def aA (a3 : Vec Ideal S20000x4 .f32) : Fin 20000 → Box := fun n k => a3 (ix2 n k)
def aG (a4 : Vec Ideal S4x32x4 .f32) (b : Fin 4) : Fin 32 → Box := fun m k => a4 (ix3 b m k)
def aL (a5 : Vec Ideal S4x32 .i32) (b : Fin 4) : Fin 32 → BitVec 32 := fun m => a5 (ix2 b m)

variable (A : Fin 20000 → Box) (G : Fin 4 → Fin 32 → Box) (L : Fin 4 → Fin 32 → BitVec 32)
  (X : Fin 4 → Fin 20000 → Fin 10 → EReal) (D : Fin 4 → Fin 20000 → Fin 4 → Fin 16 → EReal)
  (R : Fin 4 → Fin 20000 → Fin 4 → EReal)

/-- The three means, added. -/
def loss : EReal :=
  (Ideal.div (∑ b, qflSum A (G b) (L b) (X b)) (max (∑ b, labelSum A (G b) (L b)) 1) +
    Ideal.div (∑ b, -dflSum A (G b) (D b)) (max ((∑ b, posSum A (G b)) * Ideal.ofBits .f32 0x40800000#32) 1)) +
  Ideal.div (∑ b, giouSum A (G b) (R b)) (max (∑ b, posSum A (G b)) 1)

end Cert.Proof

end
-- ==== Proof.RefBoxes.lean ====
/- The reference's overlaps, centres and distances, read at an index. -/
module

public import proofs.«01_k».proof.Proof.Loss
public import proofs.«01_k».proof.Proof.Consts
public import proofs.«01_k».proof.Proof.Gen.ReferenceIdeal.Run
public import Idealize.ShloMosaic.Lib.Pointwise

@[expose] public section

noncomputable section

namespace Cert.Proof

open Idealize.ShloMosaic Idealize.ShloMosaic.StableHlo Cert.ReferenceIdeal Cert.ReferenceIdeal.Gen Cert.ReferenceIdeal.Value

variable (V : Valuation τ sig (Elt Ideal))

abbrev rA : Fin 20000 → Box := aA (V (Proc.devRef .tc main_arg3))
abbrev rG : Fin 4 → Fin 32 → Box := aG (V (Proc.devRef .tc main_arg4))
abbrev rL : Fin 4 → Fin 32 → BitVec 32 := aL (V (Proc.devRef .tc main_arg5))
abbrev rX : Fin 4 → Fin 20000 → Fin 10 → EReal := aX (V (Proc.devRef .tc main_arg0))
abbrev rR : Fin 4 → Fin 20000 → Fin 4 → EReal := aR (V (Proc.devRef .tc main_arg1))
abbrev rD : Fin 4 → Fin 20000 → Fin 4 → Fin 16 → EReal := aD (V (Proc.devRef .tc main_arg2))

/-- Halving, written as a division. -/
theorem div_two (x : EReal) : Ideal.div x (Ideal.ofBits .f32 0x40000000#32) = x * half := by
  have h2 : ((2 : ℝ) : EReal) ≠ 0 := by simp
  rw [bits_two, half, bits_half]
  unfold Ideal.div
  rw [if_neg h2, ← EReal.coe_inv]
  norm_num

theorem v22_at (b : Fin 4) (n : Fin 20000) (i : Fin 32) :
    (res_main_v22 V : Vec Ideal S4x20000x32 .f32) (ix3 b n i) = inter (rA V n) (rG V b i) := by
  pointwise [res_main_v22, res_main_v17, id_eq]
  rfl

theorem v52_at (b : Fin 4) (n : Fin 20000) (i : Fin 32) :
    (res_main_v52 V : Vec Ideal S4x20000x32 .f32) (ix3 b n i) = iou (rA V n) (rG V b i) := by
  pointwise [res_main_v52]
  rw [v22_at]
  rfl

theorem v71_at (b : Fin 4) (i : Fin 32) (n : Fin 20000) :
    (res_main_v71 V : Vec Ideal S4x32x20000 .f32) (ix3 b i n) = - dist (rA V n) (rG V b i) := by
  pointwise [res_main_v71, res_main_v68]
  rw [Fin.sum_univ_two]
  simp only [div_two]
  rfl

theorem v88_at (n : Fin 20000) : (res_main_v88 V : Vec Ideal S20000 .f32) (ix1 n) = cx (rA V n) := by
  pointwise [res_main_v88]
  rw [div_two]
  rfl

theorem v95_at (n : Fin 20000) : (res_main_v95 V : Vec Ideal S20000 .f32) (ix1 n) = cy (rA V n) := by
  pointwise [res_main_v95]
  rw [div_two]
  rfl

/-- Every distance lies below the mask. -/
def Near : Prop := ∀ b i n, dist (rA V n) (rG V b i) < big

theorem topK_at (X : FVec Ideal S4x32x20000 .f32) (b : Fin 4) (i : Fin 32) (r : Fin 9) :
    (Host.topK S4x32x9 2 (FloatOps.cmpfTotal (F := Ideal) (φ := .f32) .gt) X sliceFits_S4x32x20000_S4x32x9).2 (ix3 b i r)
      = BitVec.ofNat 32 (sortedFrom (fun k k' : Fin 20000 => decide (X (ix3 b i k') < X (ix3 b i k))) (r.castLE (by norm_num))) := by
  have hj : (fun a => ⟨0 + (ix3 b i r a).val, by
      have h := (ix3 b i r a).isLt
      have h' := (sliceFits_S4x32x20000_S4x32x9).2 a
      exact lt_of_lt_of_le (Nat.add_lt_add_left h 0) h'⟩ : S4x32x20000.Idx) = ix3 b i (r.castLE (by norm_num)) := by
    funext a
    apply Fin.ext
    match a with
    | ⟨0, _⟩ => exact Nat.zero_add _
    | ⟨1, _⟩ => exact Nat.zero_add _
    | ⟨2, _⟩ => exact Nat.zero_add _
  have ha (j k : Fin 20000) : Shape.Idx.along (s := S4x32x20000) (ix3 b i j) 2 k = ix3 b i k := by
    funext a
    fin_cases a <;> rfl
  refine (congrArg (fun j : S4x32x20000.Idx => BitVec.ofNat 32 ((Shape.Idx.along j 2 (sortedFrom (fun k k' : Fin 20000 =>
    FloatOps.cmpfTotal (F := Ideal) (φ := .f32) .gt (X (j.along 2 k)) (X (j.along 2 k')) == 1#1) (j 2))) 2).val) hj).trans ?_
  simp only [ha]
  have hf : (fun k k' : Fin 20000 => FloatOps.cmpfTotal (F := Ideal) (φ := .f32) .gt (X (ix3 b i k)) (X (ix3 b i k')) == 1#1)
      = fun k k' => decide (X (ix3 b i k') < X (ix3 b i k)) := by
    funext k k'
    rw [Ideal.cmpfTotal_def]
    show (BitVec.ofBool (decide (X (ix3 b i k') < X (ix3 b i k))) == 1#1) = _
    cases decide (X (ix3 b i k') < X (ix3 b i k)) <;> rfl
  rw [hf]
  unfold Shape.Idx.along
  rw [Function.update_self]
  rfl

/-- The first entries of the sort by distance are the anchors the rounds take. -/
theorem indices_at (hV : Near V) (b : Fin 4) (i : Fin 32) (r : Fin 9) :
    (res_main_indices V : IVec S4x32x9 32) (ix3 b i r) = BitVec.ofNat 32 (nearest (rA V) (rG V b i) r) := by
  unfold res_main_indices nearest
  rw [← sortedFrom_eq_taken (R := 9) (by norm_num) big _ (hV b i) r]
  refine (topK_at _ b i r).trans ?_
  simp only [v71_at]

end Cert.Proof

end
-- ==== Proof.RefGather.lean ====
/- The reference's gathers, read at an index. -/
module

public import proofs.«01_k».proof.Proof.Loss
public import proofs.«01_k».proof.Proof.Gen.ReferenceIdeal.Run
public import Idealize.ShloMosaic.Lib.Pointwise

@[expose] public section

noncomputable section

namespace Cert.Proof

open Idealize.ShloMosaic Idealize.ShloMosaic.StableHlo Cert.ReferenceIdeal Cert.ReferenceIdeal.Gen Cert.ReferenceIdeal.Value

/-- A word below `2 ^ 31` is its own signed value. -/
theorem toInt_small (k : ℕ) (h : k < 2 ^ 31) : (BitVec.ofNat 32 k).toInt.toNat = k := by
  rw [toInt_ofNat_small k h]; rfl

theorem gather_near {α : Type} (x : S4x32x20000.Idx → α) (idx : IVec S4x32x9x1 32) (b : Fin 4) (i : Fin 32) (r : Fin 9) (k : Fin 20000)
    (h : idx (ix4 b i r 0) = BitVec.ofNat 32 k) :
    Host.gather gather_S4x32x20000_S4x32x9x1_S4x32x9_n_2_01_01_2_3_111 x idx (ix3 b i r) = x (ix3 b i k) := by
  unfold Host.gather
  refine congrArg x (funext fun a => Fin.ext ?_)
  have hidx : gather_S4x32x20000_S4x32x9x1_S4x32x9_n_2_01_01_2_3_111.siIdx (ix3 b i r) ⟨0, by decide⟩ = (ix4 b i r 0) := by
    funext a
    fin_cases a <;> rfl
  match a with
  | ⟨0, _⟩ => exact Nat.zero_add b.val
  | ⟨1, _⟩ => exact Nat.zero_add i.val
  | ⟨2, _⟩ =>
    show min (idx (gather_S4x32x20000_S4x32x9x1_S4x32x9_n_2_01_01_2_3_111.siIdx (ix3 b i r) ⟨0, by decide⟩)).toInt.toNat (20000 - 1) + 0 + 0 = k.val
    rw [hidx, h, toInt_small _ (by omega)]
    omega

theorem gather_overlap {α : Type} (x : S4x20000x32.Idx → α) (idx : IVec S4x20000x1x1 32) (b : Fin 4) (n : Fin 20000) (z : Fin 1) (k : Fin 32)
    (h : idx (ix4 b n z 0) = BitVec.ofNat 32 k) :
    Host.gather gather_S4x20000x32_S4x20000x1x1_S4x20000x1_n_2_01_01_2_3_111 x idx (ix3 b n z) = x (ix3 b n k) := by
  unfold Host.gather
  refine congrArg x (funext fun a => Fin.ext ?_)
  have hidx : gather_S4x20000x32_S4x20000x1x1_S4x20000x1_n_2_01_01_2_3_111.siIdx (ix3 b n z) ⟨0, by decide⟩ = (ix4 b n z 0) := by
    funext a
    fin_cases a <;> rfl
  match a with
  | ⟨0, _⟩ => exact Nat.zero_add b.val
  | ⟨1, _⟩ => exact Nat.zero_add n.val
  | ⟨2, _⟩ =>
    show min (idx (gather_S4x20000x32_S4x20000x1x1_S4x20000x1_n_2_01_01_2_3_111.siIdx (ix3 b n z) ⟨0, by decide⟩)).toInt.toNat (32 - 1) + 0 + 0 = k.val
    rw [hidx, h, toInt_small _ (by omega)]
    omega

theorem gather_label {α : Type} (x : S4x32.Idx → α) (idx : IVec S4x20000x1 32) (b : Fin 4) (n : Fin 20000) (k : Fin 32)
    (h : idx (ix3 b n 0) = BitVec.ofNat 32 k) :
    Host.gather gather_S4x32_S4x20000x1_S4x20000_n_1_0_0_1_2_11 x idx (ix2 b n) = x (ix2 b k) := by
  unfold Host.gather
  refine congrArg x (funext fun a => Fin.ext ?_)
  have hidx : gather_S4x32_S4x20000x1_S4x20000_n_1_0_0_1_2_11.siIdx (ix2 b n) ⟨0, by decide⟩ = (ix3 b n 0) := by
    funext a
    fin_cases a <;> rfl
  match a with
  | ⟨0, _⟩ => exact Nat.zero_add b.val
  | ⟨1, _⟩ =>
    show min (idx (gather_S4x32_S4x20000x1_S4x20000_n_1_0_0_1_2_11.siIdx (ix2 b n) ⟨0, by decide⟩)).toInt.toNat (32 - 1) + 0 + 0 = k.val
    rw [hidx, h, toInt_small _ (by omega)]
    omega

theorem gather_box {α : Type} (x : S4x32x4.Idx → α) (idx : IVec S4x20000x1 32) (b : Fin 4) (n : Fin 20000) (s : Fin 4) (k : Fin 32)
    (h : idx (ix3 b n 0) = BitVec.ofNat 32 k) :
    Host.gather gather_S4x32x4_S4x20000x1_S4x20000x4_2_1_0_0_1_2_114 x idx (ix3 b n s) = x (ix3 b k s) := by
  unfold Host.gather
  refine congrArg x (funext fun a => Fin.ext ?_)
  have hidx : gather_S4x32x4_S4x20000x1_S4x20000x4_2_1_0_0_1_2_114.siIdx (ix3 b n s) ⟨0, by decide⟩ = (ix3 b n 0) := by
    funext a
    fin_cases a <;> rfl
  match a with
  | ⟨0, _⟩ => exact Nat.zero_add b.val
  | ⟨1, _⟩ =>
    show min (idx (gather_S4x32x4_S4x20000x1_S4x20000x4_2_1_0_0_1_2_114.siIdx (ix3 b n s) ⟨0, by decide⟩)).toInt.toNat (32 - 1) + 0 + 0 = k.val
    rw [hidx, h, toInt_small _ (by omega)]
    omega
  | ⟨2, _⟩ => exact Nat.zero_add s.val

theorem gather_bin {α : Type} (x : S4x20000x4x16.Idx → α) (idx : IVec S4x20000x4x1x1 32) (b : Fin 4) (n : Fin 20000) (s : Fin 4) (z : Fin 1) (k : Fin 16)
    (h : idx (ix5 b n s z 0) = BitVec.ofNat 32 k) :
    Host.gather gather_S4x20000x4x16_S4x20000x4x1x1_S4x20000x4x1_n_3_012_012_3_4_1111 x idx (ix4 b n s z) = x (ix4 b n s k) := by
  unfold Host.gather
  refine congrArg x (funext fun a => Fin.ext ?_)
  have hidx : gather_S4x20000x4x16_S4x20000x4x1x1_S4x20000x4x1_n_3_012_012_3_4_1111.siIdx (ix4 b n s z) ⟨0, by decide⟩ = (ix5 b n s z 0) := by
    funext a
    fin_cases a <;> rfl
  match a with
  | ⟨0, _⟩ => exact Nat.zero_add b.val
  | ⟨1, _⟩ => exact Nat.zero_add n.val
  | ⟨2, _⟩ => exact Nat.zero_add s.val
  | ⟨3, _⟩ =>
    show min (idx (gather_S4x20000x4x16_S4x20000x4x1x1_S4x20000x4x1_n_3_012_012_3_4_1111.siIdx (ix4 b n s z) ⟨0, by decide⟩)).toInt.toNat (16 - 1) + 0 + 0 = k.val
    rw [hidx, h, toInt_small _ (by omega)]
    omega

end Cert.Proof

end
-- ==== Proof.RefMatch.lean ====
/- The reference's matching: thresholds, matched boxes, overlaps and labels, read at an index. -/
module

public import proofs.«01_k».proof.Proof.RefBoxes
public import proofs.«01_k».proof.Proof.RefGather

@[expose] public section

noncomputable section

namespace Cert.Proof

open Idealize.ShloMosaic Idealize.ShloMosaic.StableHlo Cert.ReferenceIdeal Cert.ReferenceIdeal.Gen Cert.ReferenceIdeal.Value

variable (V : Valuation τ sig (Elt Ideal))

/-- A word that is no negative number needs no wrapping. -/
theorem wrap_small (k : ℕ) (h : k < 2 ^ 31) (y : BitVec 32) :
    Scalar.select (IntOp.cmpi .slt (BitVec.ofNat 32 k) 0#32) y (BitVec.ofNat 32 k) = BitVec.ofNat 32 k := by
  have : IntOp.cmpi .slt (BitVec.ofNat 32 k) 0#32 = 0#1 := by
    have h0 : ((BitVec.ofNat 32 k).slt 0#32) = false := by
      rw [BitVec.slt_eq_decide, toInt_ofNat_small k h]
      simp
    show BitVec.ofBool ((BitVec.ofNat 32 k).slt 0#32) = _
    rw [h0]; rfl
  rw [this]
  rfl

theorem call2_at (hV : Near V) (b : Fin 4) (i : Fin 32) (r : Fin 9) (z : Fin 1) :
    (res_main_call2_v5 V : IVec S4x32x9x1 32) (ix4 b i r z) = BitVec.ofNat 32 (nearest (rA V) (rG V b i) r) := by
  pointwise [res_main_call2_v5]
  rw [indices_at V hV, wrap_small _ (by omega)]

/-- A word between nought and a bound is in range. -/
theorem inrange (k h : ℕ) (hk : k ≤ h) (hh : h < 2 ^ 31) :
    IntOp.andi (IntOp.cmpi .sge (BitVec.ofNat 32 k) 0#32) (IntOp.cmpi .sle (BitVec.ofNat 32 k) (BitVec.ofNat 32 h)) = 1#1 := by
  have h1 : IntOp.cmpi .sge (BitVec.ofNat 32 k) 0#32 = 1#1 := by
    show BitVec.ofBool ((0#32).sle (BitVec.ofNat 32 k)) = _
    rw [BitVec.sle_eq_decide, toInt_ofNat_small k (by omega)]
    simp
  have h2 : IntOp.cmpi .sle (BitVec.ofNat 32 k) (BitVec.ofNat 32 h) = 1#1 := by
    show BitVec.ofBool ((BitVec.ofNat 32 k).sle (BitVec.ofNat 32 h)) = _
    rw [BitVec.sle_eq_decide, toInt_ofNat_small k (by omega), toInt_ofNat_small h hh]
    simp [hk]
  rw [h1, h2]; rfl

/-- A conjunction of ones is one. -/
theorem fold_ones {ι : Type*} (f : ι → BitVec 1) (s : Finset ι) (h : ∀ i, f i = 1#1) : Finset.fold IntOp.andi 1#1 f s = 1#1 := by
  classical
  induction s using Finset.induction_on with
  | empty => rfl
  | insert a s ha ih => rw [Finset.fold_insert ha, ih, h]; rfl

theorem select_one {α : Type} (x y : α) : Scalar.select 1#1 x y = x := rfl

/-- The largest word of a row of thirty-two. -/
theorem reduce_last (x : IVec S4x20000x32 32) (w : BitVec 32) (b : Fin 4) (n : Fin 20000) :
    Host.reduce IntOp.maxsi x (constantI S_ 32 w) reducesTo_S4x20000x32_S4x20000_d2 h_S_ (ix2 b n) =
      Finset.fold IntOp.maxsi w (fun i : Fin 32 => x (ix3 b n i)) Finset.univ := by
  rw [Host.reduce_eq_fold, Shape.ReducesTo.fold_fiber_r3_a2]
  rfl

theorem v73_at (hV : Near V) (b : Fin 4) (i : Fin 32) (r : Fin 9) :
    (res_main_v73 V : Vec Ideal S4x32x9 .f32) (ix3 b i r) = iou (rA V (nearest (rA V) (rG V b i) r)) (rG V b i) := by
  pointwise [res_main_v73]
  rw [gather_near _ _ b i r _ (call2_at V hV b i r 0), fold_ones, select_one]
  · pointwise []
    exact v52_at V _ _ _
  · intro x
    have e : (res_main_call2_v5 V : IVec S4x32x9x1 32) x = _ := (congrArg (res_main_call2_v5 V : IVec S4x32x9x1 32) (eq_ix4 (x : S4x32x9x1.Idx))).trans (call2_at V hV (x 0) (x 1) (x 2) (x 3))
    rw [e]
    exact inrange _ 19999 (by omega) (by norm_num)

theorem call8_at : (res_main_call3_call0_v8 V : Vec Ideal S_ .f32) ix0 = Ideal.ofBits .f32 0x41000000#32 := by
  pointwise [res_main_call3_call0_v8]
  show Ideal.ofBits .f32 0x41100000#32 - (((1#32).toInt : ℝ) : EReal) = _
  have h : (1#32).toInt = 1 := by decide
  rw [h, bits_nine, bits_eight, ← EReal.coe_sub]
  norm_num

theorem call5_at (hV : Near V) (b : Fin 4) (i : Fin 32) (r : Fin 9) :
    (res_main_call3_call0_v5 V : Vec Ideal S4x32x9 .f32) (ix3 b i r) =
      iou (rA V (nearest (rA V) (rG V b i) r)) (rG V b i) -
        Ideal.div (∑ r : Fin 9, iou (rA V (nearest (rA V) (rG V b i) r)) (rG V b i)) (Ideal.ofBits .f32 0x41100000#32) := by
  pointwise [res_main_call3_call0_v5]
  simp only [v73_at V hV]

theorem eight_pos : (0 : EReal) < Ideal.ofBits .f32 0x41000000#32 := by
  simp [Ideal.ofBits, Ideal.ieee, -EReal.coe_mul]

theorem v135_at (hV : Near V) (b : Fin 4) (n : Fin 20000) :
    (res_main_v135 V : IVec S4x20000 32) (ix2 b n) = matchW (rA V) (rG V b) n := by
  unfold res_main_v135 matchW
  refine (reduce_last _ _ b n).trans ?_
  refine Finset.fold_congr fun i _ => ?_
  pointwise [id_eq]
  rw [call8_at, if_pos eight_pos]
  simp only [v73_at V hV, call5_at V hV, v52_at, v88_at, v95_at]
  rfl

theorem v144_at (hV : Near V) (b : Fin 4) (n : Fin 20000) :
    (res_main_v144 V : IVec S4x20000 1) (ix2 b n) = posW (rA V) (rG V b) n := by
  pointwise [res_main_v144]
  rw [v135_at V hV]
  rfl

theorem v145_at (hV : Near V) (b : Fin 4) (n : Fin 20000) :
    (res_main_v145 V : IVec S4x20000 32) (ix2 b n) = BitVec.ofNat 32 (box (rA V) (rG V b) n) := by
  pointwise [res_main_v145, id_eq]
  rw [v135_at V hV, ← maxsi_matchW]
  exact BitVec.eq_of_toInt_eq (by rw [SortNet.toInt_maxsi, SortNet.toInt_maxsi, max_comm])

theorem v139_at (hV : Near V) (b : Fin 4) (n : Fin 20000) (z : Fin 1) :
    (res_main_v139 V : IVec S4x20000x1 32) (ix3 b n z) = BitVec.ofNat 32 (box (rA V) (rG V b) n) := by
  rw [← v145_at V hV]
  pointwise [res_main_v139, res_main_v145, id_eq]

theorem v148_at (hV : Near V) (b : Fin 4) (n : Fin 20000) (z : Fin 1) :
    (res_main_v148 V : IVec S4x20000x1 32) (ix3 b n z) = BitVec.ofNat 32 (box (rA V) (rG V b) n) := by
  rw [← v145_at V hV]
  pointwise [res_main_v148]

theorem call6_at (hV : Near V) (b : Fin 4) (n : Fin 20000) (y z : Fin 1) :
    (res_main_call6_v5 V : IVec S4x20000x1x1 32) (ix4 b n y z) = BitVec.ofNat 32 (box (rA V) (rG V b) n) := by
  pointwise [res_main_call6_v5]
  rw [v139_at V hV, wrap_small _ (by omega)]

theorem call9_at (hV : Near V) (b : Fin 4) (n : Fin 20000) (z : Fin 1) :
    (res_main_call9_v5 V : IVec S4x20000x1 32) (ix3 b n z) = BitVec.ofNat 32 (box (rA V) (rG V b) n) := by
  pointwise [res_main_call9_v5]
  rw [v145_at V hV, wrap_small _ (by omega)]

theorem call11_at (hV : Near V) (b : Fin 4) (n : Fin 20000) (z : Fin 1) :
    (res_main_call11_v4 V : IVec S4x20000x1 32) (ix3 b n z) = BitVec.ofNat 32 (box (rA V) (rG V b) n) := by
  pointwise [res_main_call11_v4]
  rw [v148_at V hV, wrap_small _ (by omega)]

theorem v147_at (hV : Near V) (b : Fin 4) (n : Fin 20000) :
    (res_main_v147 V : IVec S4x20000 32) (ix2 b n) = label (rA V) (rG V b) (rL V b) n := by
  pointwise [res_main_v147, id_eq]
  rw [gather_label _ _ b n _ (call9_at V hV b n 0), fold_ones, select_one, v144_at V hV]
  · rfl
  · intro x
    have e : (res_main_call9_v5 V : IVec S4x20000x1 32) x = _ := (congrArg (res_main_call9_v5 V : IVec S4x20000x1 32) (eq_ix3 (x : S4x20000x1.Idx))).trans (call9_at V hV (x 0) (x 1) (x 2))
    rw [e]
    exact inrange _ 31 (by omega) (by norm_num)

theorem v149_at (hV : Near V) (b : Fin 4) (n : Fin 20000) (k : Fin 4) :
    (res_main_v149 V : Vec Ideal S4x20000x4 .f32) (ix3 b n k) = rG V b (box (rA V) (rG V b) n) k := by
  pointwise [res_main_v149]
  rw [gather_box _ _ b n k _ (call11_at V hV b n 0), fold_ones, select_one]
  · rfl
  · intro x
    have e : (res_main_call11_v4 V : IVec S4x20000x1 32) x = _ := (congrArg (res_main_call11_v4 V : IVec S4x20000x1 32) (eq_ix3 (x : S4x20000x1.Idx))).trans (call11_at V hV (x 0) (x 1) (x 2))
    rw [e]
    exact inrange _ 31 (by omega) (by norm_num)

theorem v164_at (hV : Near V) (b : Fin 4) (n : Fin 20000) (z : Fin 1) :
    (res_main_v164 V : Vec Ideal S4x20000x1 .f32) (ix3 b n z) = quality (rA V) (rG V b) n := by
  pointwise [res_main_v164, id_eq]
  rw [gather_overlap _ _ b n _ _ (call6_at V hV b n _ 0), fold_ones, select_one, v135_at V hV, v52_at]
  · rfl
  · intro x
    have e : (res_main_call6_v5 V : IVec S4x20000x1x1 32) x = _ := (congrArg (res_main_call6_v5 V : IVec S4x20000x1x1 32) (eq_ix4 (x : S4x20000x1x1.Idx))).trans (call6_at V hV (x 0) (x 1) (x 2) (x 3))
    rw [e]
    exact inrange _ 31 (by omega) (by norm_num)

end Cert.Proof

end
-- ==== Proof.RefQfl.lean ====
/- The reference's quality focal loss, read at an entry. -/
module

public import proofs.«01_k».proof.Proof.RefMatch

@[expose] public section

noncomputable section

namespace Cert.Proof

open Idealize.ShloMosaic Idealize.ShloMosaic.StableHlo Cert.ReferenceIdeal Cert.ReferenceIdeal.Gen Cert.ReferenceIdeal.Value

variable (V : Valuation τ sig (Elt Ideal))

/-- A bit read as a number. -/
theorem uitofp_bit (w : BitVec 1) : FloatOps.uitofp (F := Ideal) .f32 w = if w = 1 then (1 : EReal) else 0 := by
  have h : w = 0#1 ∨ w = 1#1 := by revert w; decide
  rcases h with rfl | rfl
  · show (((0#1).toNat : ℝ) : EReal) = _
    simp
  · show (((1#1).toNat : ℝ) : EReal) = _
    simp

theorem uitofp_posW (A : Fin 20000 → Box) (G : Fin 32 → Box) (n : Fin 20000) :
    FloatOps.uitofp (F := Ideal) .f32 (posW A G n) = posF A G n := uitofp_bit _

theorem v150_at (hV : Near V) (b : Fin 4) (n : Fin 20000) (c : Fin 10) :
    (res_main_v150 V : FVec Ideal S4x20000x10 .f32) (ix3 b n c) = hot c (label (rA V) (rG V b) (rL V b) n) := by
  pointwise [res_main_v150]
  rw [v147_at V hV, uitofp_bit]
  unfold hot
  refine if_congr ?_ rfl rfl
  show BitVec.ofBool (_ == _) = 1#1 ↔ _
  generalize label (rA V) (rG V b) (rL V b) n = l
  constructor
  · intro h
    by_contra h'
    have e : (l == BitVec.ofNat 32 (c : ℕ)) = false := by simpa using fun e => h' e.symm
    rw [e] at h
    exact absurd h (by decide)
  · intro h
    rw [h]; simp

theorem v156_at (b : Fin 4) (n : Fin 20000) (c : Fin 10) :
    (res_main_v156 V : FVec Ideal S4x20000x10 .f32) (ix3 b n c) = Ideal.logistic (rX V b n c) := by
  pointwise [res_main_v156]
  rfl

theorem v163_at (hV : Near V) (b : Fin 4) (n : Fin 20000) (c : Fin 10) :
    (res_main_v163 V : FVec Ideal S4x20000x10 .f32) (ix3 b n c) =
      hot c (label (rA V) (rG V b) (rL V b) n) * Ideal.logistic (rX V b n c) +
        (1 - hot c (label (rA V) (rG V b) (rL V b) n)) * (1 - Ideal.logistic (rX V b n c)) := by
  pointwise [res_main_v163]
  rw [v150_at V hV, v156_at]

/-- The loss entries, of logits, targets and weights. -/
def qOf (X O T : FVec Ideal S4x20000x10 .f32) : FVec Ideal S4x20000x10 .f32 :=
  mulf (mulf T T)
    (addf (subf (maximumf X (broadcastInDim S4x20000x10 ![] bcast_S_S4x20000x10 (constant S_ .f32 0x00000000#32)))
      (mulf X O)) (Host.log1p (Host.exp (Host.negf (Host.absf X)))))

theorem qOf_at (X O T : FVec Ideal S4x20000x10 .f32) (b : Fin 4) (n : Fin 20000) (c : Fin 10) :
    qOf X O T (ix3 b n c) = (T (ix3 b n c) * T (ix3 b n c)) * (max (X (ix3 b n c)) 0 - X (ix3 b n c) * O (ix3 b n c) +
      Ideal.log1p (Ideal.exp (-(FloatOps.absf (F := Ideal) (φ := .f32) (X (ix3 b n c)))))) := by
  pointwise [qOf]

/-- The reference's array of loss entries. -/
def qArr : FVec Ideal S4x20000x10 .f32 := qOf (V (Proc.devRef .tc main_arg0)) (res_main_v150 V) (res_main_v173 V)

/-- The modulating weights, of overlaps and probabilities. -/
def mixOf (Q : FVec Ideal S4x20000x1 .f32) (P : FVec Ideal S4x20000x10 .f32) : FVec Ideal S4x20000x10 .f32 :=
  addf (mulf (broadcastInDim S4x20000x10 ![0, 1, 2] bcast_S4x20000x1_S4x20000x10_0_1_2 Q)
    (subf (broadcastInDim S4x20000x10 ![] bcast_S_S4x20000x10 (constant S_ .f32 0x3F800000#32)) P))
    (mulf (broadcastInDim S4x20000x10 ![0, 1, 2] bcast_S4x20000x1_S4x20000x10_0_1_2
      (subf (broadcastInDim S4x20000x1 ![] bcast_S_S4x20000x1 (constant S_ .f32 0x3F800000#32)) Q)) P)

theorem mixOf_at (Q : FVec Ideal S4x20000x1 .f32) (P : FVec Ideal S4x20000x10 .f32) (b : Fin 4) (n : Fin 20000) (c : Fin 10) :
    mixOf Q P (ix3 b n c) = Q (ix3 b n 0) * (1 - P (ix3 b n c)) + (1 - Q (ix3 b n 0)) * P (ix3 b n c) := by
  pointwise [mixOf]

theorem v173_at (hV : Near V) (b : Fin 4) (n : Fin 20000) (c : Fin 10) :
    (res_main_v173 V : FVec Ideal S4x20000x10 .f32) (ix3 b n c) =
      quality (rA V) (rG V b) n * (1 - (hot c (label (rA V) (rG V b) (rL V b) n) * Ideal.logistic (rX V b n c) +
        (1 - hot c (label (rA V) (rG V b) (rL V b) n)) * (1 - Ideal.logistic (rX V b n c)))) +
      (1 - quality (rA V) (rG V b) n) * (hot c (label (rA V) (rG V b) (rL V b) n) * Ideal.logistic (rX V b n c) +
        (1 - hot c (label (rA V) (rG V b) (rL V b) n)) * (1 - Ideal.logistic (rX V b n c))) := by
  refine (mixOf_at (res_main_v164 V) (res_main_v163 V) b n c).trans ?_
  rw [v163_at V hV, v164_at V hV]

theorem qArr_at (hV : Near V) (b : Fin 4) (n : Fin 20000) (c : Fin 10) :
    qArr V (ix3 b n c) = qflTerm (rX V b n c) (hot c (label (rA V) (rG V b) (rL V b) n)) (quality (rA V) (rG V b) n) := by
  unfold qArr
  rw [qOf_at, v150_at V hV, v173_at V hV]
  rfl

/-- All entries summed. -/
theorem q_sum (hV : Near V) :
    (Host.reduceAdd (qArr V) (constant S_ .f32 0x00000000#32) reducesTo_S4x20000x10_S_d0_1_2 h_S_ : FVec Ideal S_ .f32) ix0 =
      ∑ b, qflSum (rA V) (rG V b) (rL V b) (rX V b) := by
  pointwise []
  refine Finset.sum_congr rfl fun b _ => ?_
  unfold qflSum
  rw [Finset.sum_comm]
  exact Finset.sum_congr rfl fun c _ => Finset.sum_congr rfl fun n _ => qArr_at V hV b n c

end Cert.Proof

end
-- ==== Proof.RefCount.lean ====
/- Counts of set bits: as words and as numbers. -/
module

public import proofs.«01_k».proof.Proof.RefMatch
public import Idealize.ShloMosaic.Lib.IndicatorCount

@[expose] public section

noncomputable section

namespace Cert.Proof

open Idealize.ShloMosaic Idealize.ShloMosaic.StableHlo Cert.ReferenceIdeal Cert.ReferenceIdeal.Gen Cert.ReferenceIdeal.Value

/-- How many bits of an array are set. -/
def bits (p : IVec S4x20000 1) : ℕ := (Finset.univ.filter fun i : S4x20000.Idx => p i = 1#1).card

theorem bits_le (p : IVec S4x20000 1) : bits p ≤ 80000 := by
  refine (Finset.card_le_univ _).trans (le_of_eq ?_)
  rw [Fintype.card_congr ⟨fun i : S4x20000.Idx => (i 0, i 1), fun q : Fin 4 × Fin 20000 => ix2 q.1 q.2, fun i => (eq_ix2 i).symm, fun _ => rfl⟩]
  simp

/-- The words' sum is the count. -/
theorem reduce_bits (p : IVec S4x20000 1) (i : S_.Idx) :
    Host.reduce IntOp.addi (extui 32 p natLt_1_32) (constantI S_ 32 0#32) reducesTo_S4x20000_S_d0_1 h_S_ i = BitVec.ofNat 32 (bits p) := by
  rw [Host.reduce_eq_fold, Finset.filter_true_of_mem fun x _ => funext fun a => a.elim0]
  exact IndicatorCount.fold_addi_setWidth_eq_card p Finset.univ

/-- Real numbers may be summed before or after entering the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The numbers' sum is the count. -/
theorem sum_bits (p : IVec S4x20000 1) :
    (∑ b : Fin 4, ∑ n : Fin 20000, if p (ix2 b n) = 1#1 then (1 : EReal) else 0) = ((bits p : ℝ) : EReal) := by
  have h : ∀ b n, (if p (ix2 b n) = 1#1 then (1 : EReal) else 0) = (((if p (ix2 b n) = 1#1 then (1 : ℝ) else 0) : ℝ) : EReal) := by
    intro b n; split_ifs <;> simp
  simp only [h]
  rw [show (∑ b : Fin 4, ∑ n : Fin 20000, (((if p (ix2 b n) = 1#1 then (1 : ℝ) else 0) : ℝ) : EReal)) =
    ((∑ b : Fin 4, ∑ n : Fin 20000, (if p (ix2 b n) = 1#1 then (1 : ℝ) else 0) : ℝ) : EReal) by
      simp only [coe_sum]]
  congr 1
  rw [bits, Finset.card_filter]
  push_cast
  rw [← Fintype.sum_prod_type']
  exact Fintype.sum_equiv ⟨fun q : Fin 4 × Fin 20000 => (ix2 q.1 q.2 : S4x20000.Idx), fun i : S4x20000.Idx => (i 0, i 1), fun _ => rfl,
    fun i => (eq_ix2 i).symm⟩ _ _ fun _ => rfl

/-- A small count, never below one, as a number. -/
theorem count_max (k : ℕ) (h : k < 2 ^ 31) :
    FloatOps.sitofp (F := Ideal) .f32 (IntOp.maxsi (BitVec.ofNat 32 k) 1#32) = max ((k : ℝ) : EReal) 1 := by
  show (((IntOp.maxsi (BitVec.ofNat 32 k) 1#32).toInt : ℝ) : EReal) = _
  rw [SortNet.toInt_maxsi, toInt_ofNat_small k h]
  have : (1#32).toInt = 1 := by decide
  rw [this, Int.cast_max, EReal.coe_strictMono.monotone.map_max]
  simp

theorem count_max4 (k : ℕ) (h : k ≤ 80000) :
    FloatOps.sitofp (F := Ideal) .f32 (IntOp.maxsi (IntOp.muli (BitVec.ofNat 32 k) 4#32) 1#32) =
      max (((k : ℝ) : EReal) * Ideal.ofBits .f32 0x40800000#32) 1 := by
  have e : IntOp.muli (BitVec.ofNat 32 k) 4#32 = BitVec.ofNat 32 (k * 4) := by
    show BitVec.ofNat 32 k * 4#32 = _
    apply BitVec.eq_of_toNat_eq
    rw [BitVec.toNat_mul, BitVec.toNat_ofNat, BitVec.toNat_ofNat, BitVec.toNat_ofNat]
    omega
  rw [e, count_max _ (by omega), bits_four, ← EReal.coe_mul]
  push_cast
  rfl

end Cert.Proof

end
-- ==== Proof.Logits.lean ====
/- The distribution's log-probabilities, for every logit: the shift by the greatest, and signs in the sum of losses. -/
module

public import proofs.«01_k».proof.Proof.Loss
public import proofs.«01_k».proof.Proof.Consts
public import proofs.«01_k».proof.Proof.RefCount

@[expose] public section

noncomputable section

namespace Cert.Proof

open Idealize.ShloMosaic

/-- The greatest of sixteen numbers bounds each and is one of them. -/
theorem greatest_spec (D : Fin 16 → EReal) :
    (∀ i, D i ≤ Finset.fold max ⊥ D Finset.univ) ∧ ∃ i, Finset.fold max ⊥ D Finset.univ = D i := by
  obtain ⟨i, -, hi⟩ := Finset.exists_mem_eq_sup (Finset.univ : Finset (Fin 16)) Finset.univ_nonempty D
  exact ⟨fun i => Finset.le_sup (f := D) (Finset.mem_univ i), i, hi⟩

theorem exp_nonneg (x : EReal) : 0 ≤ Ideal.exp x := by
  induction x with
  | bot => exact le_refl _
  | top => exact le_top
  | coe r => exact EReal.coe_nonneg.2 (Real.exp_pos r).le

theorem exp_le_sum (D : Fin 16 → EReal) (i : Fin 16) : Ideal.exp (D i) ≤ ∑ i, Ideal.exp (D i) :=
  Finset.single_le_sum (f := fun i => Ideal.exp (D i)) (fun i _ => exp_nonneg _) (Finset.mem_univ i)

/-- With an infinite logit every log-probability is the least number. -/
theorem logp_of_top (D : Fin 16 → EReal) (i : Fin 16) (h : D i = ⊤) (j : Fin 16) : logp D j = ⊥ := by
  have hs : ∑ i, Ideal.exp (D i) = ⊤ := by
    have := exp_le_sum D i
    rw [h] at this
    exact top_le_iff.1 this
  unfold logp
  rw [hs]
  show D j - ⊤ = ⊥
  rw [sub_eq_add_neg, EReal.neg_top, EReal.add_bot]

theorem logp_of_bot (D : Fin 16 → EReal) (j : Fin 16) (h : D j = ⊥) : logp D j = ⊥ := by
  unfold logp
  rw [h, sub_eq_add_neg, EReal.bot_add]

/-- The exponential of a logit that is not infinite, as a real number. -/
def expR (x : EReal) : ℝ := if x = ⊥ then 0 else Real.exp x.toReal

theorem expR_nonneg (x : EReal) : 0 ≤ expR x := by
  unfold expR
  split_ifs
  · exact le_refl _
  · exact (Real.exp_pos _).le

theorem exp_eq_expR (x : EReal) (h : x ≠ ⊤) : Ideal.exp x = (expR x : EReal) := by
  induction x with
  | bot => simp [expR]
  | top => exact absurd rfl h
  | coe r => simp [expR]

theorem exp_shift (x : EReal) (h : x ≠ ⊤) (M : ℝ) : Ideal.exp (x - (M : EReal)) = ((expR x * Real.exp (-M) : ℝ) : EReal) := by
  induction x with
  | bot => rw [sub_eq_add_neg, EReal.bot_add]; simp [expR]
  | top => exact absurd rfl h
  | coe r => rw [← EReal.coe_sub, Ideal.exp_coe]; simp [expR, sub_eq_add_neg, Real.exp_add]

/-- The shift by the greatest logit changes no log-probability. -/
theorem shifted (D : Fin 16 → EReal) (j : Fin 16) :
    (D j - Finset.fold max ⊥ D Finset.univ) - Ideal.log (∑ i, Ideal.exp (D i - Finset.fold max ⊥ D Finset.univ)) = logp D j := by
  obtain ⟨hle, i, hi⟩ := greatest_spec D
  generalize Finset.fold max ⊥ D Finset.univ = M at hle hi
  induction M with
  | bot =>
    have hj : D j = ⊥ := le_bot_iff.1 (hle j)
    rw [logp_of_bot D j hj, hj, sub_eq_add_neg, sub_eq_add_neg, EReal.bot_add, EReal.bot_add]
  | top =>
    rw [logp_of_top D i hi.symm j, sub_eq_add_neg, sub_eq_add_neg, EReal.neg_top, EReal.add_bot, EReal.bot_add]
  | coe m =>
    have ht : ∀ k, D k ≠ ⊤ := fun k h => by
      have := hle k
      rw [h] at this
      exact EReal.coe_ne_top m (top_le_iff.1 this)
    by_cases hj : D j = ⊥
    · rw [logp_of_bot D j hj, hj, sub_eq_add_neg, sub_eq_add_neg, EReal.bot_add, EReal.bot_add]
    · have pos : 0 < ∑ i, expR (D i) := by
        refine Finset.sum_pos' (fun i _ => expR_nonneg _) ⟨i, Finset.mem_univ i, ?_⟩
        rw [← hi]
        unfold expR
        rw [if_neg (EReal.coe_ne_bot m)]
        exact Real.exp_pos _
      obtain ⟨x, hx⟩ : ∃ x : ℝ, D j = x := ⟨_, (EReal.coe_toReal (ht j) hj).symm⟩
      unfold logp
      simp only [fun i => exp_eq_expR (D i) (ht i), fun i => exp_shift (D i) (ht i) m, hx, ← coe_sum, ← Finset.sum_mul,
        Ideal.log_coe, ← EReal.coe_sub]
      rw [if_neg (not_le.2 pos), if_neg (not_le.2 (mul_pos pos (Real.exp_pos _))), ← EReal.coe_sub, ← EReal.coe_sub,
        Real.log_mul pos.ne' (Real.exp_pos _).ne', Real.log_exp]
      refine congrArg Real.toEReal ?_
      ring

/-- No log-probability is above every real number. -/
theorem logp_ne_top (D : Fin 16 → EReal) (j : Fin 16) : logp D j ≠ ⊤ := by
  rcases eq_or_ne (D j) ⊤ with h | h
  · rw [logp_of_top D j h j]; decide
  · have hs : 0 ≤ ∑ i, Ideal.exp (D i) := Finset.sum_nonneg fun i _ => exp_nonneg _
    rcases eq_or_ne (D j) ⊥ with h' | h'
    · rw [logp_of_bot D j h']; decide
    obtain ⟨x, hx⟩ : ∃ x : ℝ, D j = x := ⟨_, (EReal.coe_toReal h h').symm⟩
    have h1 := exp_le_sum D j
    unfold logp
    generalize ∑ i, Ideal.exp (D i) = s at hs h1
    rw [hx] at h1 ⊢
    induction s with
    | bot => exact absurd hs (by decide)
    | top =>
      show (x : EReal) - ⊤ ≠ ⊤
      rw [sub_eq_add_neg, EReal.neg_top, EReal.add_bot]; decide
    | coe r =>
      have hr : 0 < r := lt_of_lt_of_le (Real.exp_pos x) (EReal.coe_le_coe_iff.1 h1)
      rw [Ideal.log_coe, if_neg (not_le.2 hr), ← EReal.coe_sub]
      exact EReal.coe_ne_top _

/-- A place among the bins lies between nought and fifteen. -/
theorem place_real (t : EReal) : ∃ r : ℝ, place t = r ∧ 0 ≤ r ∧ r ≤ 15 := by
  have h : ∀ x : EReal, ∃ r : ℝ, min 1 (max 0 x) = r ∧ 0 ≤ r ∧ r ≤ 1 := by
    intro x
    have h0 : (0 : EReal) ≤ min 1 (max 0 x) := le_min zero_le_one (le_max_left _ _)
    have h1 : min 1 (max 0 x) ≤ (1 : EReal) := min_le_left _ _
    obtain ⟨r, hr⟩ : ∃ r : ℝ, min 1 (max 0 x) = r :=
      ⟨_, (EReal.coe_toReal (ne_top_of_le_ne_top (by decide) h1) (ne_bot_of_le_ne_bot (by decide) h0)).symm⟩
    rw [hr] at h0 h1
    exact ⟨r, hr, EReal.coe_nonneg.1 h0, EReal.coe_le_coe_iff.1 h1⟩
  obtain ⟨r, hr, h0, h1⟩ := h (Ideal.div t (Ideal.ofBits .f32 0x44800000#32))
  refine ⟨r * 15, ?_, by linarith, by linarith⟩
  unfold place
  rw [hr, bits_fifteen, EReal.coe_mul]

/-- The share of the upper bin lies between nought and one. -/
theorem share_real (t : EReal) : ∃ s : ℝ, share t = s ∧ 0 ≤ s ∧ s ≤ 1 := by
  obtain ⟨p, hp, h0, h15⟩ := place_real t
  have hf0 : 0 ≤ ⌊p⌋ := Int.floor_nonneg.2 h0
  have hf15 : ⌊p⌋ ≤ 15 := by
    have := Int.floor_le_floor h15
    simpa using this
  have hi : (Ideal.fptosi 32 (p : EReal)).toInt = ⌊p⌋ := by
    unfold Ideal.fptosi
    rw [Ideal.toIntClamped_coe, if_pos h0, BitVec.toInt_ofInt]
    generalize ⌊p⌋ = f at hf0 hf15
    norm_num
    rw [min_eq_right (by omega), max_eq_right (by omega), Int.bmod_eq_of_le (by omega) (by omega)]
  have hb : (binW t).toInt = min 14 ⌊p⌋ := by
    unfold binW
    rw [SortNet.toInt_minsi, SortNet.toInt_maxsi, hp, hi, show (14#32).toInt = 14 by decide, show (0#32).toInt = 0 by decide,
      max_eq_right hf0]
  refine ⟨p - ((min 14 ⌊p⌋ : ℤ) : ℝ), ?_, ?_, ?_⟩
  · unfold share
    rw [hp, hb, EReal.coe_sub]
  · have : ((min 14 ⌊p⌋ : ℤ) : ℝ) ≤ (⌊p⌋ : ℝ) := Int.cast_le.2 (min_le_right _ _)
    linarith [Int.floor_le p]
  · rcases le_total 14 ⌊p⌋ with h | h
    · rw [min_eq_left h]; push_cast; linarith
    · rw [min_eq_right h]; linarith [Int.lt_floor_add_one p]

theorem mul_ne_top (r : ℝ) (h : 0 ≤ r) (x : EReal) (hx : x ≠ ⊤) : (r : EReal) * x ≠ ⊤ := by
  induction x with
  | bot =>
    rcases h.eq_or_lt with h | h
    · rw [← h, EReal.coe_zero, zero_mul]; decide
    · rw [EReal.coe_mul_bot_of_pos h]; decide
  | top => exact absurd rfl hx
  | coe y => rw [← EReal.coe_mul]; exact EReal.coe_ne_top _

/-- No side's loss entry is above every real number. -/
theorem dflTerm_ne_top (D : Fin 16 → EReal) (t : EReal) : dflTerm D t ≠ ⊤ := by
  obtain ⟨s, hs, h0, h1⟩ := share_real t
  unfold dflTerm
  rw [hs]
  refine (EReal.add_lt_top ?_ (mul_ne_top s h0 _ (logp_ne_top D _))).ne
  rw [show (1 : EReal) - (s : EReal) = ((1 - s : ℝ) : EReal) by rw [EReal.coe_sub, EReal.coe_one]]
  exact mul_ne_top _ (by linarith) _ (logp_ne_top D _)

/-- A sum of numbers none of which is above every real number, and its sign. -/
theorem sum_neg_of_ne_top {ι : Type} (s : Finset ι) (f : ι → EReal) (h : ∀ i, f i ≠ ⊤) :
    ∑ i ∈ s, f i ≠ ⊤ ∧ ∑ i ∈ s, -f i = -∑ i ∈ s, f i := by
  classical
  induction s using Finset.induction_on with
  | empty => simp
  | insert a s ha ih =>
    rw [Finset.sum_insert ha, Finset.sum_insert ha, ih.2]
    exact ⟨(EReal.add_lt_top (h a) ih.1).ne, by rw [EReal.neg_add (Or.inr ih.1) (Or.inl (h a)), sub_eq_add_neg]⟩

/-- An image's distribution losses: signs and order of summation do not matter. -/
theorem dflSum_neg (A : Fin 20000 → Box) (G : Fin 32 → Box) (D : Fin 20000 → Fin 4 → Fin 16 → EReal) :
    (∑ n, ∑ k, -dflTerm (D n k) (G (box A G n) k) * posF A G n) = -dflSum A G D := by
  have ht : ∀ n k, dflTerm (D n k) (G (box A G n) k) * posF A G n ≠ ⊤ := fun n k => by
    unfold posF
    split_ifs
    · rw [mul_one]; exact dflTerm_ne_top _ _
    · rw [mul_zero]; decide
  unfold dflSum
  rw [Finset.sum_comm, ← (sum_neg_of_ne_top _ _ fun k => (sum_neg_of_ne_top _ _ fun n => ht n k).1).2]
  refine Finset.sum_congr rfl fun k _ => ?_
  rw [← (sum_neg_of_ne_top _ _ fun n => ht n k).2]
  exact Finset.sum_congr rfl fun n _ => EReal.neg_mul _ _

end Cert.Proof

end
-- ==== Proof.RefDfl.lean ====
/- The reference's distribution loss, read at a side. -/
module

public import proofs.«01_k».proof.Proof.RefMatch
public import proofs.«01_k».proof.Proof.Logits

@[expose] public section

noncomputable section

namespace Cert.Proof

open Idealize.ShloMosaic Idealize.ShloMosaic.StableHlo Cert.ReferenceIdeal Cert.ReferenceIdeal.Gen Cert.ReferenceIdeal.Value

variable (V : Valuation τ sig (Elt Ideal))

theorem v206_at (b : Fin 4) (n : Fin 20000) (k : Fin 4) (j : Fin 16) :
    (res_main_v206 V : FVec Ideal S4x20000x4x16 .f32) (ix4 b n k j) = rD V b n k j := by
  pointwise [res_main_v206]
  rfl

/-- The greatest logit of a row. -/
theorem reduce_greatest (D : FVec Ideal S4x20000x4x16 .f32) (b : Fin 4) (n : Fin 20000) (k : Fin 4) :
    Host.reduce FloatOps.maximumf D (constant S_ .f32 0xFF800000#32) reducesTo_S4x20000x4x16_S4x20000x4_d3 h_S_ (ix3 b n k) =
      Finset.fold max ⊥ (fun j => D (ix4 b n k j)) Finset.univ := by
  rw [Host.reduce_eq_fold, Shape.ReducesTo.fold_fiber_r4_a3]
  have h0 : (constant (F := Ideal) S_ FTy.f32 (4286578688#32) (Shape.Idx.first h_S_)) = ⊥ := bits_bot
  rw [h0]
  refine Finset.fold_congr fun j _ => ?_
  rfl

/-- A row less a number of its own. -/
theorem shift_at (D : FVec Ideal S4x20000x4x16 .f32) (m : FVec Ideal S4x20000x4 .f32) (b : Fin 4) (n : Fin 20000) (k : Fin 4) (j : Fin 16) :
    (subf D (broadcastInDim S4x20000x4x16 ![0, 1, 2, 3] bcast_S4x20000x4x1_S4x20000x4x16_0_1_2_3 (broadcastInDim S4x20000x4x1 ![0, 1, 2] bcast_S4x20000x4_S4x20000x4x1_0_1_2 (maximumf (broadcastInDim S4x20000x4 ![] bcast_S_S4x20000x4 (constant S_ .f32 0xFF800000#32)) m))) : FVec Ideal S4x20000x4x16 .f32) (ix4 b n k j) =
     D (ix4 b n k j) - m (ix3 b n k) := by
  pointwise []
  rw [bits_bot]
  simp

theorem call15_at (b : Fin 4) (n : Fin 20000) (k : Fin 4) (j : Fin 16) :
    (res_main_call15_v5 V : FVec Ideal S4x20000x4x16 .f32) (ix4 b n k j) =
      rD V b n k j - Finset.fold max ⊥ (rD V b n k) Finset.univ := by
  unfold res_main_call15_v5
  refine (shift_at _ _ b n k j).trans ?_
  rw [reduce_greatest, v206_at]
  exact congrArg (fun f => rD V b n k j - Finset.fold max ⊥ f Finset.univ) (funext fun j => v206_at V b n k j)

theorem v207_at (b : Fin 4) (n : Fin 20000) (k : Fin 4) (j : Fin 16) :
    (res_main_v207 V : FVec Ideal S4x20000x4x16 .f32) (ix4 b n k j) = logp (rD V b n k) j := by
  pointwise [res_main_v207]
  simp only [call15_at]
  exact shifted _ j

theorem v197_at (hV : Near V) (b : Fin 4) (n : Fin 20000) (k : Fin 4) :
    (res_main_v197 V : FVec Ideal S4x20000x4 .f32) (ix3 b n k) = place (rG V b (box (rA V) (rG V b) n) k) := by
  pointwise [res_main_v197, id_eq]
  rw [v149_at V hV]
  rfl

theorem v199_at (hV : Near V) (b : Fin 4) (n : Fin 20000) (k : Fin 4) :
    (res_main_v199 V : IVec S4x20000x4 32) (ix3 b n k) = binW (rG V b (box (rA V) (rG V b) n) k) := by
  pointwise [res_main_v199, id_eq]
  rw [v197_at V hV]
  rfl

theorem v203_at (hV : Near V) (b : Fin 4) (n : Fin 20000) (k : Fin 4) :
    (res_main_v203 V : FVec Ideal S4x20000x4 .f32) (ix3 b n k) = share (rG V b (box (rA V) (rG V b) n) k) := by
  pointwise [res_main_v203]
  rw [v197_at V hV, v199_at V hV]
  rfl

theorem call16_at (hV : Near V) (b : Fin 4) (n : Fin 20000) (k : Fin 4) (y z : Fin 1) :
    (res_main_call16_v5 V : IVec S4x20000x4x1x1 32) (ix5 b n k y z) =
      BitVec.ofNat 32 ((bin (rG V b (box (rA V) (rG V b) n) k)).castSucc : Fin 16) := by
  pointwise [res_main_call16_v5, res_main_v208]
  rw [v199_at V hV, binW_eq, wrap_small _ (by omega)]
  rfl

theorem call17_at (hV : Near V) (b : Fin 4) (n : Fin 20000) (k : Fin 4) (y z : Fin 1) :
    (res_main_call17_v5 V : IVec S4x20000x4x1x1 32) (ix5 b n k y z) =
      BitVec.ofNat 32 ((bin (rG V b (box (rA V) (rG V b) n) k)).succ : Fin 16) := by
  pointwise [res_main_call17_v5, res_main_v211]
  rw [v199_at V hV, binW_eq]
  generalize bin (rG V b (box (rA V) (rG V b) n) k) = q
  have e : IntOp.addi (BitVec.ofNat 32 (q : ℕ)) 1#32 = BitVec.ofNat 32 (q.succ : Fin 16) := by
    revert q; decide
  rw [e, wrap_small _ (by omega)]

/-- The reference's two gathers of log-probabilities. -/
def chosen (idx : IVec S4x20000x4x1x1 32) : FVec Ideal S4x20000x4 .f32 :=
  shapeCast _ (select (Host.reduce IntOp.andi (andi (cmpi .sge idx (broadcastInDim S4x20000x4x1x1 ![] bcast_S_S4x20000x4x1x1 (constantI S_ 32 0#32)))
    (cmpi .sle idx (broadcastInDim S4x20000x4x1x1 ![0, 1, 2, 3, 4] bcast_S1x1x1x1x1_S4x20000x4x1x1_0_1_2_3_4
      (broadcastInDim S1x1x1x1x1 ![4] bcast_S1_S1x1x1x1x1_4 (constantI S1 32 15#32))))) (constantI S_ 1 1#1)
      reducesTo_S4x20000x4x1x1_S4x20000x4x1_d4 h_S_)
    (Host.gather gather_S4x20000x4x16_S4x20000x4x1x1_S4x20000x4x1_n_3_012_012_3_4_1111 (res_main_v207 V) idx)
    (broadcastInDim S4x20000x4x1 ![] bcast_S_S4x20000x4x1 (constant S_ .f32 0x7FC00000#32))) shapeCasts_S4x20000x4x1_S4x20000x4

theorem chosen_at (idx : IVec S4x20000x4x1x1 32) (q : Fin 4 → Fin 20000 → Fin 4 → Fin 16)
    (h : ∀ b n k y z, idx (ix5 b n k y z) = BitVec.ofNat 32 (q b n k)) (b : Fin 4) (n : Fin 20000) (k : Fin 4) :
    chosen V idx (ix3 b n k) = logp (rD V b n k) (q b n k) := by
  pointwise [chosen]
  rw [gather_bin _ _ b n k _ _ (h b n k _ 0), fold_ones, select_one, v207_at V]
  intro x
  rw [h]
  exact inrange _ 15 (by omega) (by norm_num)

/-- The reference's array of distribution losses. -/
def dArr : FVec Ideal S4x20000x4 .f32 :=
  mulf (Host.negf (addf (mulf (subf (broadcastInDim S4x20000x4 ![] bcast_S_S4x20000x4 (constant S_ .f32 0x3F800000#32)) (res_main_v203 V))
    (chosen V (res_main_call16_v5 V))) (mulf (res_main_v203 V) (chosen V (res_main_call17_v5 V)))))
    (broadcastInDim S4x20000x4 ![0, 1, 2] bcast_S4x20000x1_S4x20000x4_0_1_2 (uitofp .f32
      (broadcastInDim S4x20000x1 ![0, 1] bcast_S4x20000_S4x20000x1_0_1 (res_main_v144 V))))

theorem dArr_at (hV : Near V) (b : Fin 4) (n : Fin 20000) (k : Fin 4) :
    dArr V (ix3 b n k) = -dflTerm (rD V b n k) (rG V b (box (rA V) (rG V b) n) k) *
      FloatOps.uitofp (F := Ideal) .f32 (posW (rA V) (rG V b) n) := by
  pointwise [dArr]
  rw [v203_at V hV, v144_at V hV, chosen_at V _ _ (call16_at V hV), chosen_at V _ _ (call17_at V hV)]
  rfl

end Cert.Proof

end
-- ==== Proof.RefGiou.lean ====
/- The reference's box loss, read at an anchor. -/
module

public import proofs.«01_k».proof.Proof.RefQfl

@[expose] public section

noncomputable section

namespace Cert.Proof

open Idealize.ShloMosaic Idealize.ShloMosaic.StableHlo Cert.ReferenceIdeal Cert.ReferenceIdeal.Gen Cert.ReferenceIdeal.Value

variable (V : Valuation τ sig (Elt Ideal))

/-- A finite box's middle: from one side by half the breadth, or half the sides' sum. -/
theorem middle (a b : EReal) (ha : ∃ r : ℝ, a = r) (hb : ∃ r : ℝ, b = r) : a + half * (b - a) = (a + b) * half := by
  obtain ⟨x, rfl⟩ := ha
  obtain ⟨y, rfl⟩ := hb
  rw [half, bits_half, ← EReal.coe_sub, ← EReal.coe_mul, ← EReal.coe_add, ← EReal.coe_add, ← EReal.coe_mul]
  congr 1
  ring

/-- Every side of every anchor is a real number. -/
def RealA : Prop := ∀ n k, ∃ r : ℝ, rA V n k = r

theorem v233_at (n : Fin 20000) : (res_main_v233 V : FVec Ideal S20000 .f32) (ix1 n) = rA V n 2 - rA V n 0 := by
  pointwise [res_main_v233]
  rfl

theorem v238_at (n : Fin 20000) : (res_main_v238 V : FVec Ideal S20000 .f32) (ix1 n) = rA V n 3 - rA V n 1 := by
  pointwise [res_main_v238]
  rfl

theorem v262_at (hA : RealA V) (b : Fin 4) (n : Fin 20000) :
    (res_main_v262 V : FVec Ideal S4x20000 .f32) (ix2 b n) = rR V b n 0 * (rA V n 2 - rA V n 0) + cx (rA V n) := by
  pointwise [res_main_v262]
  rw [v233_at]
  exact congrArg (rR V b n 0 * (rA V n 2 - rA V n 0) + ·) (middle (rA V n 0) (rA V n 2) (hA n 0) (hA n 2))

theorem v268_at (hA : RealA V) (b : Fin 4) (n : Fin 20000) :
    (res_main_v268 V : FVec Ideal S4x20000 .f32) (ix2 b n) = rR V b n 1 * (rA V n 3 - rA V n 1) + cy (rA V n) := by
  pointwise [res_main_v268]
  rw [v238_at]
  exact congrArg (rR V b n 1 * (rA V n 3 - rA V n 1) + ·) (middle (rA V n 1) (rA V n 3) (hA n 1) (hA n 3))

theorem v272_at (b : Fin 4) (n : Fin 20000) :
    (res_main_v272 V : FVec Ideal S4x20000 .f32) (ix2 b n) = Ideal.exp (rR V b n 2) * (rA V n 2 - rA V n 0) := by
  pointwise [res_main_v272]
  rw [v233_at]
  rfl

theorem v276_at (b : Fin 4) (n : Fin 20000) :
    (res_main_v276 V : FVec Ideal S4x20000 .f32) (ix2 b n) = Ideal.exp (rR V b n 3) * (rA V n 3 - rA V n 1) := by
  pointwise [res_main_v276]
  rw [v238_at]
  rfl

theorem v293_at0 (hA : RealA V) (b : Fin 4) (n : Fin 20000) :
    (res_main_v293 V : FVec Ideal S4x20000x4 .f32) (ix3 b n 0) = moved (rA V n) (rR V b n) 0 := by
  pointwise [res_main_v293]
  rw [v262_at V hA, v272_at]
  rfl

theorem v293_at1 (hA : RealA V) (b : Fin 4) (n : Fin 20000) :
    (res_main_v293 V : FVec Ideal S4x20000x4 .f32) (ix3 b n 1) = moved (rA V n) (rR V b n) 1 := by
  pointwise [res_main_v293]
  rw [v268_at V hA, v276_at]
  rfl

theorem v293_at2 (hA : RealA V) (b : Fin 4) (n : Fin 20000) :
    (res_main_v293 V : FVec Ideal S4x20000x4 .f32) (ix3 b n 2) = moved (rA V n) (rR V b n) 2 := by
  pointwise [res_main_v293]
  rw [v262_at V hA, v272_at]
  rfl

theorem v293_at3 (hA : RealA V) (b : Fin 4) (n : Fin 20000) :
    (res_main_v293 V : FVec Ideal S4x20000x4 .f32) (ix3 b n 3) = moved (rA V n) (rR V b n) 3 := by
  pointwise [res_main_v293]
  rw [v268_at V hA, v276_at]
  rfl

theorem v306_at (hV : Near V) (hA : RealA V) (b : Fin 4) (n : Fin 20000) :
    (res_main_v306 V : FVec Ideal S4x20000 .f32) (ix2 b n) =
      inter (moved (rA V n) (rR V b n)) (rG V b (box (rA V) (rG V b) n)) := by
  pointwise [res_main_v306, res_main_v301, id_eq]
  rw [v293_at0 V hA, v293_at1 V hA, v293_at2 V hA, v293_at3 V hA, v149_at V hV, v149_at V hV, v149_at V hV, v149_at V hV]
  rfl

theorem v344_at (hV : Near V) (hA : RealA V) (b : Fin 4) (n : Fin 20000) :
    (res_main_v344 V : FVec Ideal S4x20000 .f32) (ix2 b n) =
      hull (moved (rA V n) (rR V b n)) (rG V b (box (rA V) (rG V b) n)) := by
  pointwise [res_main_v344, res_main_v339, id_eq]
  rw [v293_at0 V hA, v293_at1 V hA, v293_at2 V hA, v293_at3 V hA, v149_at V hV, v149_at V hV, v149_at V hV, v149_at V hV]
  rfl

theorem v330_at (hV : Near V) (hA : RealA V) (b : Fin 4) (n : Fin 20000) :
    (res_main_v330 V : FVec Ideal S4x20000 .f32) (ix2 b n) =
      union (moved (rA V n) (rR V b n)) (rG V b (box (rA V) (rG V b) n)) := by
  pointwise [res_main_v330]
  rw [v306_at V hV hA, v293_at0 V hA, v293_at1 V hA, v293_at2 V hA, v293_at3 V hA, v149_at V hV, v149_at V hV, v149_at V hV, v149_at V hV]
  rfl

/-- The reference's array of box losses. -/
def gArr : FVec Ideal S4x20000 .f32 :=
  mulf (subf (broadcastInDim S4x20000 ![] bcast_S_S4x20000 (constant S_ .f32 0x3F800000#32))
    (subf (Host.divf (res_main_v306 V) (res_main_v330 V)) (Host.divf (subf (res_main_v344 V) (res_main_v330 V)) (res_main_v344 V))))
    (uitofp .f32 (res_main_v144 V))

theorem gArr_at (hV : Near V) (hA : RealA V) (b : Fin 4) (n : Fin 20000) :
    gArr V (ix2 b n) = (1 - giou (moved (rA V n) (rR V b n)) (rG V b (box (rA V) (rG V b) n))) * posF (rA V) (rG V b) n := by
  pointwise [gArr]
  rw [v306_at V hV hA, v330_at V hV hA, v344_at V hV hA, v144_at V hV, uitofp_posW]
  rfl

theorem g_sum (hV : Near V) (hA : RealA V) :
    (Host.reduceAdd (gArr V) (constant S_ .f32 0x00000000#32) reducesTo_S4x20000_S_d0_1 h_S_ : FVec Ideal S_ .f32) ix0 =
      ∑ b, giouSum (rA V) (rG V b) (rR V b) := by
  pointwise []
  refine Finset.sum_congr rfl fun b _ => ?_
  unfold giouSum
  exact Finset.sum_congr rfl fun n _ => gArr_at V hV hA b n

end Cert.Proof

end
-- ==== Proof.RefTotal.lean ====
/- The reference's result: the sums put together. -/
module

public import proofs.«01_k».proof.Proof.RefQfl
public import proofs.«01_k».proof.Proof.RefDfl
public import proofs.«01_k».proof.Proof.RefGiou
public import proofs.«01_k».proof.Proof.RefCount

@[expose] public section

noncomputable section

namespace Cert.Proof

open Idealize.ShloMosaic Idealize.ShloMosaic.StableHlo Cert.ReferenceIdeal Cert.ReferenceIdeal.Gen Cert.ReferenceIdeal.Value

variable (V : Valuation τ sig (Elt Ideal))

theorem d_sum (hV : Near V) :
    (Host.reduceAdd (dArr V) (constant S_ .f32 0x00000000#32) reducesTo_S4x20000x4_S_d0_1_2 h_S_ : FVec Ideal S_ .f32) ix0 =
      ∑ b, -dflSum (rA V) (rG V b) (rD V b) := by
  pointwise []
  refine Finset.sum_congr rfl fun b _ => ?_
  rw [← dflSum_neg]
  exact Finset.sum_congr rfl fun n _ => Finset.sum_congr rfl fun k _ => (dArr_at V hV b n k).trans (by rw [uitofp_bit]; rfl)

/-- The labels above nought. -/
def labelBits : IVec S4x20000 1 := cmpi .sgt (res_main_v147 V) (broadcastInDim S4x20000 ![] bcast_S_S4x20000 (constantI S_ 32 0#32))

theorem labelBits_at (hV : Near V) (b : Fin 4) (n : Fin 20000) :
    labelBits V (ix2 b n) = IntOp.cmpi .sgt (label (rA V) (rG V b) (rL V b) n) 0#32 := by
  rw [← v147_at V hV]
  pointwise [labelBits]

theorem label_count (hV : Near V) : ((bits (labelBits V) : ℝ) : EReal) = ∑ b, labelSum (rA V) (rG V b) (rL V b) := by
  rw [← sum_bits]
  refine Finset.sum_congr rfl fun b _ => ?_
  exact Finset.sum_congr rfl fun n _ => by rw [labelBits_at V hV]; rfl

theorem pos_count (hV : Near V) : ((bits (res_main_v144 V) : ℝ) : EReal) = ∑ b, posSum (rA V) (rG V b) := by
  rw [← sum_bits]
  refine Finset.sum_congr rfl fun b _ => ?_
  exact Finset.sum_congr rfl fun n _ => by rw [v144_at V hV]; rfl

/-- Three means, of the sums and the counts. -/
def meansOf (Q Dv Gv : FVec Ideal S_ .f32) (N M : IVec S_ 32) : FVec Ideal S_ .f32 :=
  addf (addf (Host.divf Q (sitofp .f32 (maxsi N (constantI S_ 32 1#32))))
    (Host.divf Dv (sitofp .f32 (maxsi (muli M (constantI S_ 32 4#32)) (constantI S_ 32 1#32)))))
    (mulf (constant S_ .f32 0x3F800000#32) (Host.divf Gv (sitofp .f32 (maxsi M (constantI S_ 32 1#32)))))

theorem meansOf_at (Q Dv Gv : FVec Ideal S_ .f32) (N M : IVec S_ 32) :
    meansOf Q Dv Gv N M ix0 =
      (Ideal.div (Q ix0) (FloatOps.sitofp (F := Ideal) .f32 (IntOp.maxsi (N ix0) 1#32)) +
        Ideal.div (Dv ix0) (FloatOps.sitofp (F := Ideal) .f32 (IntOp.maxsi (IntOp.muli (M ix0) 4#32) 1#32))) +
      Ideal.div (Gv ix0) (FloatOps.sitofp (F := Ideal) .f32 (IntOp.maxsi (M ix0) 1#32)) := by
  pointwise [meansOf]

/-- The reference's result. -/
def total : FVec Ideal S_ .f32 :=
  meansOf (Host.reduceAdd (qArr V) (constant S_ .f32 0x00000000#32) reducesTo_S4x20000x10_S_d0_1_2 h_S_)
    (Host.reduceAdd (dArr V) (constant S_ .f32 0x00000000#32) reducesTo_S4x20000x4_S_d0_1_2 h_S_)
    (Host.reduceAdd (gArr V) (constant S_ .f32 0x00000000#32) reducesTo_S4x20000_S_d0_1 h_S_)
    (Host.reduce IntOp.addi (extui 32 (labelBits V) natLt_1_32) (constantI S_ 32 0#32) reducesTo_S4x20000_S_d0_1 h_S_)
    (res_main_v223 V)

theorem v223_at : (res_main_v223 V : IVec S_ 32) ix0 = BitVec.ofNat 32 (bits (res_main_v144 V)) := reduce_bits _ ix0

theorem total_at (hV : Near V) (hA : RealA V) :
    total V ix0 = loss (rA V) (rG V) (rL V) (rX V) (rD V) (rR V) := by
  have h1 := bits_le (labelBits V)
  have h2 := bits_le (res_main_v144 V)
  unfold total
  rw [meansOf_at, q_sum V hV, d_sum V hV, g_sum V hV hA, reduce_bits, v223_at, count_max _ (by omega), count_max4 _ h2,
    count_max _ (by omega), label_count V hV, pos_count V hV]
  rfl

end Cert.Proof

end
-- ==== Proof.Bounds.lean ====
/- What the precondition says of the numbers, and that it keeps every distance below the mask. -/
module

public import proofs.«01_k».proof.Defs
public import proofs.«01_k».proof.Proof.PreFacts
public import proofs.«01_k».proof.Proof.Loss
public import proofs.«01_k».proof.Proof.Consts
public import Idealize.ShloMosaic.Lib.Pointwise

@[expose] public section

noncomputable section

namespace Cert.Proof

open Idealize.ShloMosaic

/-- A number of magnitude below a bound that is a real number is a real number. -/
theorem real_of_abs (x B : EReal) (h : max x (-x) < B) : ∃ r : ℝ, x = r := by
  induction x with
  | bot => exact absurd (lt_of_le_of_lt (le_max_right _ _) h) (by simp)
  | top => exact absurd (lt_of_le_of_lt (le_max_left _ _) h) (by simp)
  | coe r => exact ⟨r, rfl⟩

theorem abs_of_abs (r B : ℝ) (h : max (r : EReal) (-(r : EReal)) < (B : EReal)) : |r| < B := by
  have h1 := lt_of_le_of_lt (le_max_left _ _) h
  have h2 := lt_of_le_of_lt (le_max_right _ _) h
  rw [← EReal.coe_neg] at h2
  exact abs_lt.2 ⟨by linarith [EReal.coe_lt_coe_iff.1 h2], EReal.coe_lt_coe_iff.1 h1⟩

/-- Every side a real number of magnitude below the bound. -/
def Small (p : Box) : Prop := ∀ k, ∃ r : ℝ, p k = r ∧ |r| < 9860761 * 2 ^ 103

theorem small_of_abs (p : Box) (h : ∀ k, max (p k) (-(p k)) < Ideal.ofBits .f32 0x7E967699#32) : Small p := by
  intro k
  have hk := h k
  rw [bits_bound] at hk
  obtain ⟨r, hr⟩ := real_of_abs _ _ hk
  rw [hr] at hk
  exact ⟨r, hr, abs_of_abs _ _ hk⟩

theorem dist_lt (p t : Box) (hp : Small p) (ht : Small t) : dist p t < big := by
  choose a ha hab using hp
  choose c hc hcb using ht
  unfold dist cx cy
  rw [ha, ha, ha, ha, hc, hc, hc, hc, half, bits_half, big, bits_mask]
  simp only [← EReal.coe_add, ← EReal.coe_mul, ← EReal.coe_sub]
  rw [Ideal.sqrt_coe, if_neg (by nlinarith [sq_nonneg ((a 0 + a 2) * (1 / 2) - (c 0 + c 2) * (1 / 2)), sq_nonneg ((a 1 + a 3) * (1 / 2) - (c 1 + c 3) * (1 / 2))]), EReal.coe_lt_coe_iff]
  have bound : ∀ i j : Fin 4, |(a i + a j) * (1 / 2) - (c i + c j) * (1 / 2)| < 2 * (9860761 * 2 ^ 103) := by
    intro i j
    have h1 := abs_lt.1 (hab i); have h2 := abs_lt.1 (hab j)
    have h3 := abs_lt.1 (hcb i); have h4 := abs_lt.1 (hcb j)
    exact abs_lt.2 ⟨by linarith, by linarith⟩
  have hx := bound 0 2
  have hy := bound 1 3
  generalize (a 0 + a 2) * (1 / 2) - (c 0 + c 2) * (1 / 2) = x at hx ⊢
  generalize (a 1 + a 3) * (1 / 2) - (c 1 + c 3) * (1 / 2) = y at hy ⊢
  have hB : (0 : ℝ) < 9860761 * 2 ^ 103 := by positivity
  refine lt_trans ((Real.sqrt_lt' (y := 3 * (9860761 * 2 ^ 103)) (by positivity)).2 ?_) (by norm_num)
  generalize (9860761 * 2 ^ 103 : ℝ) = B at hx hy hB
  have hx2 : x * x < 2 * B * (2 * B) := abs_lt_iff_mul_self_lt.1 (by rwa [abs_of_pos (a := 2 * B) (by linarith)])
  have hy2 : y * y < 2 * B * (2 * B) := abs_lt_iff_mul_self_lt.1 (by rwa [abs_of_pos (a := 2 * B) (by linarith)])
  nlinarith

attribute [local instance] preFacts

/-- A comparison that came out one. -/
theorem lt_of_cmp (x B : EReal) (h : BitVec.ofBool (decide (x < B)) = 1#1) : x < B := by
  by_contra h'
  rw [decide_eq_false h'] at h
  exact absurd h (by decide)

section
open Cert.Pre_boxes_below_mask
variable (a0 : FVec Ideal S4x20000x10 .f32) (a1 : FVec Ideal S4x20000x4 .f32) (a2 : FVec Ideal S4x20000x64 .f32)
  (a3 : FVec Ideal S20000x4 .f32) (a4 : FVec Ideal S4x32x4 .f32) (a5 : IVec S4x32 32)

theorem anchors_small (h : (Cert.Pre_boxes_below_mask.fn (F := Ideal) a0 a1 a2 a3 a4 a5).1 = fun _ => 1#1) (n : Fin 20000) :
    Small (aA a3 n) := by
  refine small_of_abs _ fun k => ?_
  have hi : BitVec.ofBool (decide (max (a3 (ix2 n k)) (-(a3 (ix2 n k))) < Ideal.ofBits .f32 0x7E967699#32)) = 1#1 := congrFun h (ix2 n k)
  exact lt_of_cmp _ _ hi

theorem boxes_small (h : (Cert.Pre_boxes_below_mask.fn (F := Ideal) a0 a1 a2 a3 a4 a5).2 = fun _ => 1#1) (b : Fin 4) (i : Fin 32) :
    Small (aG a4 b i) := by
  refine small_of_abs _ fun k => ?_
  have hi : BitVec.ofBool (decide (max (a4 (ix3 b i k)) (-(a4 (ix3 b i k))) < Ideal.ofBits .f32 0x7E967699#32)) = 1#1 := congrFun h (ix3 b i k)
  exact lt_of_cmp _ _ hi

end

end Cert.Proof

end
-- ==== Proof.KernelRound.lean ====
/- One round of the kernel's search for the nearest anchors, read at an index. -/
module

public import proofs.«01_k».proof.Proof.Gen.KernelIdeal.Frame
public import proofs.«01_k».proof.Proof.Folds

@[expose] public section

noncomputable section

namespace Cert.Proof

open Idealize.ShloMosaic Cert.KernelIdeal Cert.KernelIdeal.Gen

/-- The round's mask: the first position of each row's least value. -/
def selV (d : FVec Ideal S32x20000 .f32) : IVec S32x20000 1 :=
  cmpi .eq (iota .tc S32x20000 32 [1] iota_S32x20000_d1_w32)
    (broadcastTo S32x20000 (shapeCast S32x1 (multiReductionI .minsi [1] S32
      (select (cmpf .oeq d (broadcastTo S32x20000 (shapeCast S32x1
        (multiReduction .minimumf [1] S32 d 0x7F800000#32 reduces_S32x20000_S32 (.inl rfl) rfl) shapeCasts_S32_S32x1)
          broadcasts_S32x1_S32x20000)) (iota .tc S32x20000 32 [1] iota_S32x20000_d1_w32) (broadcast S32x20000 20000#32))
      2147483647#32 reduces_S32x20000_S32 rfl) shapeCasts_S32_S32x1) broadcasts_S32x1_S32x20000)

theorem selV_apply (d : FVec Ideal S32x20000 .f32) (m : Fin 32) (n : Fin 20000) :
    selV d (ix2 m n) = BitVec.ofBool (decide (n = pick fun k => d (ix2 m k))) := by
  pointwise [selV]
  rw [bits_top, fold_min_pick (fun k => d (ix2 m k)), fold_minsi_pick (by norm_num) (fun k => d (ix2 m k)) _ (by decide)]
  simp only [IntOp.cmpi, ofNat_inj_small (n := 20000) (by norm_num)]

end Cert.Proof

end
-- ==== Proof.KernelStages.lean ====
/- The kernel body's values, stage by stage, read at an index. -/
module

public import proofs.«01_k».proof.Proof.KernelRound
public import proofs.«01_k».proof.Proof.Spec

@[expose] public section

noncomputable section

namespace Cert.Proof

open Idealize.ShloMosaic Cert.KernelIdeal Cert.KernelIdeal.Gen

/-- The blocks as the functions the loss is written in. -/
def kA (x3 : Vec Ideal S4x20000 .f32) : Fin 20000 → Box := fun n k => x3 (ix2 k n)
def kG (x4 : Vec Ideal S1x32x4 .f32) : Fin 32 → Box := fun m k => x4 (ix3 0 m k)
def kL (x5 : Vec Ideal S1x32x1 .i32) : Fin 32 → BitVec 32 := fun m => x5 (ix3 0 m 0)
def kX (x0 : Vec Ideal S1x10x20000 .f32) : Fin 20000 → Fin 10 → EReal := fun n c => x0 (ix3 0 c n)
def kR (x1 : Vec Ideal S1x4x20000 .f32) : Fin 20000 → Fin 4 → EReal := fun n k => x1 (ix3 0 k n)
def kD (x2 : Vec Ideal S1x4x16x20000 .f32) : Fin 20000 → Fin 4 → Fin 16 → EReal := fun n k j => x2 (ix4 0 k j n)

variable (x0 : Vec Ideal S1x10x20000 .f32) (x1 : Vec Ideal S1x4x20000 .f32) (x2 : Vec Ideal S1x4x16x20000 .f32)
  (x3 : Vec Ideal S4x20000 .f32) (x4 : Vec Ideal S1x32x4 .f32) (x5 : Vec Ideal S1x32x1 .i32)

theorem iou_stage (m : Fin 32) (n : Fin 20000) :
    k0_pay86 x0 x1 x2 x3 x4 x5 (ix2 m n) = iou (kA x3 n) (kG x4 m) := by
  pointwise [k0_pay86, k0_pay13, k0_pay12, k0_pay11, k0_pay10, k0_pay9, k0_pay8, k0_pay7, k0_pay6, k0_pay5, k0_pay3, k0_pay2]
  rfl

theorem cx_stage (z : Fin 1) (n : Fin 20000) : k0_pay87 x0 x1 x2 x3 x4 x5 (ix2 z n) = cx (kA x3 n) := by
  pointwise [k0_pay87, k0_pay14, k0_pay7, k0_pay5, k0_pay2]
  rfl

theorem cy_stage (z : Fin 1) (n : Fin 20000) : k0_pay90 x0 x1 x2 x3 x4 x5 (ix2 z n) = cy (kA x3 n) := by
  pointwise [k0_pay90, k0_pay88, k0_pay16, k0_pay15, k0_pay8, k0_pay6, k0_pay2]
  rfl

theorem side0_stage (m : Fin 32) (z : Fin 1) : k0_pay82 x0 x1 x2 x3 x4 x5 (ix2 m z) = kG x4 m 0 := by
  pointwise [k0_pay82, k0_pay9, k0_pay3]
  rfl
theorem side1_stage (m : Fin 32) (z : Fin 1) : k0_pay83 x0 x1 x2 x3 x4 x5 (ix2 m z) = kG x4 m 1 := by
  pointwise [k0_pay83, k0_pay10, k0_pay3]
  rfl
theorem side2_stage (m : Fin 32) (z : Fin 1) : k0_pay84 x0 x1 x2 x3 x4 x5 (ix2 m z) = kG x4 m 2 := by
  pointwise [k0_pay84, k0_pay11, k0_pay3]
  rfl
theorem side3_stage (m : Fin 32) (z : Fin 1) : k0_pay85 x0 x1 x2 x3 x4 x5 (ix2 m z) = kG x4 m 3 := by
  pointwise [k0_pay85, k0_pay12, k0_pay3]
  rfl

/-- The distances every box sees at the start of a round. -/
def left : ℕ → FVec Ideal S32x20000 .f32
  | 0 => k0_pay17 (k0_pay82 x0 x1 x2 x3 x4 x5) (k0_pay83 x0 x1 x2 x3 x4 x5) (k0_pay84 x0 x1 x2 x3 x4 x5)
      (k0_pay85 x0 x1 x2 x3 x4 x5) (k0_pay87 x0 x1 x2 x3 x4 x5) (k0_pay88 x0 x1 x2 x3 x4 x5)
  | r + 1 => select (selV (left r)) (broadcast S32x20000 (Scalar.ofBits .f32 0x7F7FC99E#32)) (left r)

theorem left_zero (m : Fin 32) (n : Fin 20000) :
    left x0 x1 x2 x3 x4 x5 0 (ix2 m n) = dist (kA x3 n) (kG x4 m) := by
  unfold left
  pointwise [k0_pay17, k0_pay16, k0_pay82, k0_pay83, k0_pay84, k0_pay85, k0_pay87, k0_pay88, k0_pay15, k0_pay14, k0_pay12,
    k0_pay11, k0_pay10, k0_pay9, k0_pay8, k0_pay7, k0_pay6, k0_pay5, k0_pay3, k0_pay2]
  rfl

theorem left_stage (r : ℕ) (m : Fin 32) :
    (fun n => left x0 x1 x2 x3 x4 x5 r (ix2 m n)) = rounds big (fun n => dist (kA x3 n) (kG x4 m)) r := by
  induction r with
  | zero => funext n; exact left_zero x0 x1 x2 x3 x4 x5 m n
  | succ r ih =>
    funext n
    change Scalar.select (selV (left x0 x1 x2 x3 x4 x5 r) (ix2 m n)) big (left x0 x1 x2 x3 x4 x5 r (ix2 m n)) =
      masked big (rounds big (fun n => dist (kA x3 n) (kG x4 m)) r) n
    rw [selV_apply, ih, ← ih]
    unfold masked Scalar.select
    by_cases h : n = pick fun n => left x0 x1 x2 x3 x4 x5 r (ix2 m n)
    · simp [h]
    · simp [h]

/-- The overlap of the anchor a round takes. -/
def tookV (r : ℕ) : FVec Ideal S32 .f32 :=
  multiReduction .add [1] S32 (select (selV (left x0 x1 x2 x3 x4 x5 r)) (k0_pay86 x0 x1 x2 x3 x4 x5)
    (broadcast S32x20000 (Scalar.ofBits .f32 0x00000000#32))) 0x00000000#32 reduces_S32x20000_S32 (.inl rfl) rfl

theorem took_stage (r : ℕ) (m : Fin 32) :
    tookV x0 x1 x2 x3 x4 x5 r (ix1 m) = iou (kA x3 (nearest (kA x3) (kG x4 m) r)) (kG x4 m) := by
  pointwise [tookV]
  rw [Finset.sum_eq_single (nearest (kA x3) (kG x4 m) r)]
  · rw [selV_apply, left_stage, iou_stage]
    simp [nearest, taken, Scalar.select]
  · intro n _ hn
    rw [selV_apply, left_stage]
    unfold nearest taken at hn
    simp [Scalar.select, hn]
  · simp

/-- The nine rounds' overlaps, stacked. -/
def stackV (a b c d e f g h i : FVec Ideal S32 .f32) : FVec Ideal S9x32 .f32 :=
  concatenate S9x32 0 [⟨S1x32, shapeCast S1x32 a shapeCasts_S32_S1x32⟩, ⟨S1x32, shapeCast S1x32 b shapeCasts_S32_S1x32⟩,
    ⟨S1x32, shapeCast S1x32 c shapeCasts_S32_S1x32⟩, ⟨S1x32, shapeCast S1x32 d shapeCasts_S32_S1x32⟩,
    ⟨S1x32, shapeCast S1x32 e shapeCasts_S32_S1x32⟩, ⟨S1x32, shapeCast S1x32 f shapeCasts_S32_S1x32⟩,
    ⟨S1x32, shapeCast S1x32 g shapeCasts_S32_S1x32⟩, ⟨S1x32, shapeCast S1x32 h shapeCasts_S32_S1x32⟩,
    ⟨S1x32, shapeCast S1x32 i shapeCasts_S32_S1x32⟩] concatenates_S1x32_S1x32_S1x32_S1x32_S1x32_S1x32_S1x32_S1x32_S1x32_S9x32_d0

theorem stackV_apply (t : ℕ → FVec Ideal S32 .f32) (r : Fin 9) (m : Fin 32) :
    stackV (t 0) (t 1) (t 2) (t 3) (t 4) (t 5) (t 6) (t 7) (t 8) (ix2 r m) = t r (ix1 m) := by
  pointwise [stackV]
  fin_cases r <;> simp

/-- The mask of the overlaps reaching the threshold. -/
def reachV (v : FVec Ideal S32x20000 .f32) (w : FVec Ideal S9x32 .f32) : IVec S32x20000 1 :=
  have mean : FVec Ideal S32 .f32 := divf (multiReduction .add [0] S32 w 0x00000000#32 reduces_S9x32_S32 (.inl rfl) rfl)
    (broadcast S32 (Scalar.ofBits .f32 0x41100000#32))
  have off : FVec Ideal S9x32 .f32 := subf w (broadcastTo S9x32 (shapeCast S1x32 mean shapeCasts_S32_S1x32) broadcasts_S1x32_S9x32)
  have var : FVec Ideal S32 .f32 := divf (multiReduction .add [0] S32 (mulf off off) 0x00000000#32 reduces_S9x32_S32 (.inl rfl) rfl)
    (broadcast S32 (Scalar.ofBits .f32 0x41000000#32))
  cmpf .oge v (broadcastTo S32x20000 (shapeCast S32x1 (addf mean (sqrt var)) shapeCasts_S32_S32x1) broadcasts_S32x1_S32x20000)

theorem reachV_apply (v : FVec Ideal S32x20000 .f32) (w : FVec Ideal S9x32 .f32) (m : Fin 32) (n : Fin 20000) :
    reachV v w (ix2 m n) = BitVec.ofBool (decide (meanDev (fun r => w (ix2 r m)) ≤ v (ix2 m n))) := by
  pointwise [reachV]
  rfl

theorem reach_eq : k0_pay95 x0 x1 x2 x3 x4 x5 = reachV (k0_pay86 x0 x1 x2 x3 x4 x5)
    (stackV (tookV x0 x1 x2 x3 x4 x5 0) (tookV x0 x1 x2 x3 x4 x5 1) (tookV x0 x1 x2 x3 x4 x5 2) (tookV x0 x1 x2 x3 x4 x5 3)
      (tookV x0 x1 x2 x3 x4 x5 4) (tookV x0 x1 x2 x3 x4 x5 5) (tookV x0 x1 x2 x3 x4 x5 6) (tookV x0 x1 x2 x3 x4 x5 7)
      (tookV x0 x1 x2 x3 x4 x5 8)) := by
  rfl

theorem reach_stage (m : Fin 32) (n : Fin 20000) : k0_pay95 x0 x1 x2 x3 x4 x5 (ix2 m n) =
    BitVec.ofBool (decide (thr (kA x3) (kG x4 m) ≤ iou (kA x3 n) (kG x4 m))) := by
  rw [reach_eq, reachV_apply, iou_stage]
  simp only [stackV_apply (tookV x0 x1 x2 x3 x4 x5), took_stage]
  rfl

theorem match_stage (z : Fin 1) (n : Fin 20000) :
    k0_pay43 (k0_pay83 x0 x1 x2 x3 x4 x5) (k0_pay84 x0 x1 x2 x3 x4 x5) (k0_pay85 x0 x1 x2 x3 x4 x5) (k0_pay87 x0 x1 x2 x3 x4 x5)
      (k0_pay90 x0 x1 x2 x3 x4 x5) (k0_pay95 x0 x1 x2 x3 x4 x5) (k0_pay96 x0 x1 x2 x3 x4 x5) (ix2 z n)
      = matchW (kA x3) (kG x4) n := by
  pointwise [k0_pay43, k0_pay96, k0_pay42]
  simp only [reach_stage, side0_stage, side1_stage, side2_stage, side3_stage, cx_stage, cy_stage]
  rfl

theorem sel_stage (m : Fin 32) (n : Fin 20000) :
    k0_pay97 x0 x1 x2 x3 x4 x5 (ix2 m n) = BitVec.ofBool (decide (m = box (kA x3) (kG x4) n)) := by
  pointwise [k0_pay97, k0_pay44]
  rw [match_stage, maxsi_matchW]
  simp only [IntOp.cmpi, ofNat_inj_small (n := 32) (by norm_num)]

theorem pos_stage (z : Fin 1) (n : Fin 20000) :
    k0_pay45 (k0_pay83 x0 x1 x2 x3 x4 x5) (k0_pay84 x0 x1 x2 x3 x4 x5) (k0_pay85 x0 x1 x2 x3 x4 x5) (k0_pay87 x0 x1 x2 x3 x4 x5)
      (k0_pay90 x0 x1 x2 x3 x4 x5) (k0_pay95 x0 x1 x2 x3 x4 x5) (k0_pay96 x0 x1 x2 x3 x4 x5) (ix2 z n)
      = posW (kA x3) (kG x4) n := by
  pointwise [k0_pay45]
  rw [match_stage]
  rfl

theorem sitofp_bit (b : BitVec 1) : FloatOps.sitofp (F := Ideal) .f32 (BitVec.setWidth 32 b) = if b = 1 then 1 else 0 := by
  change (((BitVec.setWidth 32 b).toInt : ℝ) : EReal) = _
  rcases BitVec.eq_zero_or_eq_one b with rfl | rfl <;> simp

theorem posF_stage (z : Fin 1) (n : Fin 20000) : k0_pay98 x0 x1 x2 x3 x4 x5 (ix2 z n) = posF (kA x3) (kG x4) n := by
  pointwise [k0_pay98, k0_pay46]
  rw [pos_stage]
  exact sitofp_bit _

theorem select_hot {α : Type} {n : ℕ} (m k : Fin n) (a b : α) :
    Scalar.select (BitVec.ofBool (decide (m = k))) a b = if m = k then a else b := by
  unfold Scalar.select
  by_cases h : m = k <;> simp [h]

theorem quality_stage (z : Fin 1) (n : Fin 20000) :
    k0_pay47 (k0_pay83 x0 x1 x2 x3 x4 x5) (k0_pay84 x0 x1 x2 x3 x4 x5) (k0_pay85 x0 x1 x2 x3 x4 x5) (k0_pay86 x0 x1 x2 x3 x4 x5)
      (k0_pay87 x0 x1 x2 x3 x4 x5) (k0_pay90 x0 x1 x2 x3 x4 x5) (k0_pay95 x0 x1 x2 x3 x4 x5) (k0_pay96 x0 x1 x2 x3 x4 x5) (ix2 z n)
      = quality (kA x3) (kG x4) n := by
  have h := fun m => sel_stage x0 x1 x2 x3 x4 x5 m n
  unfold k0_pay97 at h
  pointwise [k0_pay47]
  simp only [pos_stage, h, iou_stage, select_hot, Finset.sum_ite_eq', Finset.mem_univ, if_true]
  rfl

/-- A line of words of which all but one are nought adds to that one. -/
theorem fold_addi_hot {n : ℕ} (k : Fin n) (f : Fin n → BitVec 32) :
    Finset.fold IntOp.addi (0#32) (fun m => if m = k then f m else 0#32) Finset.univ = f k := by
  have h : ∀ s : Finset (Fin n), Finset.fold IntOp.addi (0#32) (fun m => if m = k then f m else 0#32) s
      = if k ∈ s then f k else 0#32 := by
    intro s
    induction s using Finset.induction_on with
    | empty => simp
    | insert a s ha ih =>
      rw [Finset.fold_insert ha, ih]
      by_cases hk : a = k
      · subst hk; simp [ha, IntOp.addi]
      · simp [hk, Ne.symm hk, IntOp.addi]
  rw [h, if_pos (Finset.mem_univ k)]

theorem label_stage (z : Fin 1) (n : Fin 20000) :
    k0_pay99 x0 x1 x2 x3 x4 x5 (ix2 z n) = label (kA x3) (kG x4) (kL x5) n := by
  have h := fun m => sel_stage x0 x1 x2 x3 x4 x5 m n
  unfold k0_pay97 at h
  pointwise [k0_pay99, k0_pay48, k0_pay4]
  simp only [pos_stage, h, select_hot, fold_addi_hot]
  rfl

theorem target0_stage (z : Fin 1) (n : Fin 20000) :
    k0_pay100 x0 x1 x2 x3 x4 x5 (ix2 z n) = kG x4 (box (kA x3) (kG x4) n) 0 := by
  have h := fun m => sel_stage x0 x1 x2 x3 x4 x5 m n
  unfold k0_pay97 at h
  pointwise [k0_pay100, k0_pay49, k0_pay77, k0_pay3]
  simp only [h, select_hot, Finset.sum_ite_eq', Finset.mem_univ, if_true]
  rfl
theorem target1_stage (z : Fin 1) (n : Fin 20000) :
    k0_pay101 x0 x1 x2 x3 x4 x5 (ix2 z n) = kG x4 (box (kA x3) (kG x4) n) 1 := by
  pointwise [k0_pay101, k0_pay51, k0_pay50, k0_pay77, k0_pay3]
  simp only [sel_stage, select_hot, Finset.sum_ite_eq', Finset.mem_univ, if_true]
  rfl
theorem target2_stage (z : Fin 1) (n : Fin 20000) :
    k0_pay102 x0 x1 x2 x3 x4 x5 (ix2 z n) = kG x4 (box (kA x3) (kG x4) n) 2 := by
  pointwise [k0_pay102, k0_pay52, k0_pay77, k0_pay3]
  simp only [sel_stage, select_hot, Finset.sum_ite_eq', Finset.mem_univ, if_true]
  rfl
theorem target3_stage (z : Fin 1) (n : Fin 20000) :
    k0_pay103 x0 x1 x2 x3 x4 x5 (ix2 z n) = kG x4 (box (kA x3) (kG x4) n) 3 := by
  pointwise [k0_pay103, k0_pay53, k0_pay77, k0_pay3]
  simp only [sel_stage, select_hot, Finset.sum_ite_eq', Finset.mem_univ, if_true]
  rfl

end Cert.Proof

end
-- ==== Proof.KernelSums.lean ====
/- The five sums the kernel's body stores. -/
module

public import proofs.«01_k».proof.Proof.KernelStages

@[expose] public section

noncomputable section

namespace Cert.Proof

open Idealize.ShloMosaic Cert.KernelIdeal Cert.KernelIdeal.Gen

variable (x0 : Vec Ideal S1x10x20000 .f32) (x1 : Vec Ideal S1x4x20000 .f32) (x2 : Vec Ideal S1x4x16x20000 .f32)
  (x3 : Vec Ideal S4x20000 .f32) (x4 : Vec Ideal S1x32x4 .f32) (x5 : Vec Ideal S1x32x1 .i32)

theorem hot_stage (c : Fin 10) (n : Fin 20000) :
    k0_pay55 (F := Ideal) (k0_pay99 x0 x1 x2 x3 x4 x5) (ix2 c n) = hot c (label (kA x3) (kG x4) (kL x5) n) := by
  pointwise [k0_pay55]
  rw [label_stage, sitofp_bit]
  unfold hot IntOp.cmpi
  generalize label (kA x3) (kG x4) (kL x5) n = l
  by_cases h : BitVec.ofNat 32 (c : ℕ) = l
  · simp [h]
  · have h' : (BitVec.ofNat 32 (c : ℕ) == l) = false := by simpa using h
    rw [if_neg h, h']; rfl

/-- The image's entry row: what the body stores at each of the eight places. -/
theorem qfl_stage :
    k0_pay58 (F := Ideal) (k0_pay54 (View.ld x0 r0_3)) (k0_pay55 (F := Ideal) (k0_pay99 x0 x1 x2 x3 x4 x5))
      (k0_pay56 (k0_pay47 (k0_pay83 x0 x1 x2 x3 x4 x5) (k0_pay84 x0 x1 x2 x3 x4 x5) (k0_pay85 x0 x1 x2 x3 x4 x5)
        (k0_pay86 x0 x1 x2 x3 x4 x5) (k0_pay87 x0 x1 x2 x3 x4 x5) (k0_pay90 x0 x1 x2 x3 x4 x5) (k0_pay95 x0 x1 x2 x3 x4 x5)
        (k0_pay96 x0 x1 x2 x3 x4 x5)) (k0_pay99 x0 x1 x2 x3 x4 x5) (View.ld x0 r0_3)) (k0_pay57 (F := Ideal))
      = qflSum (kA x3) (kG x4) (kL x5) (kX x0) := by
  pointwise [k0_pay58, k0_pay57, k0_pay56, k0_pay54]
  simp only [hot_stage, quality_stage, zero_sub]
  rfl

theorem label_sum_stage : k0_pay59 (F := Ideal) (k0_pay99 x0 x1 x2 x3 x4 x5) = labelSum (kA x3) (kG x4) (kL x5) := by
  pointwise [k0_pay59]
  simp only [label_stage, sitofp_bit, Fin.sum_univ_one]
  rfl

/-- The matched box's sides, stacked. -/
theorem place_stage (k : Fin 4) (n : Fin 20000) :
    k0_pay61 (k0_pay100 x0 x1 x2 x3 x4 x5) (k0_pay101 x0 x1 x2 x3 x4 x5) (k0_pay102 x0 x1 x2 x3 x4 x5) (k0_pay103 x0 x1 x2 x3 x4 x5)
      (ix2 k n) = place (kG x4 (box (kA x3) (kG x4) n) k) := by
  pointwise [k0_pay61]
  simp only [target0_stage, target1_stage, target2_stage, target3_stage]
  fin_cases k <;> simp [place]

theorem bin_stage (k : Fin 4) (n : Fin 20000) :
    k0_pay62 (k0_pay100 x0 x1 x2 x3 x4 x5) (k0_pay101 x0 x1 x2 x3 x4 x5) (k0_pay102 x0 x1 x2 x3 x4 x5) (k0_pay103 x0 x1 x2 x3 x4 x5)
      (ix2 k n) = binW (kG x4 (box (kA x3) (kG x4) n) k) := by
  pointwise [k0_pay62]
  rw [place_stage]
  rfl

theorem share_stage (k : Fin 4) (n : Fin 20000) :
    k0_pay63 (k0_pay100 x0 x1 x2 x3 x4 x5) (k0_pay101 x0 x1 x2 x3 x4 x5) (k0_pay102 x0 x1 x2 x3 x4 x5) (k0_pay103 x0 x1 x2 x3 x4 x5)
      (ix2 k n) = share (kG x4 (box (kA x3) (kG x4) n) k) := by
  pointwise [k0_pay63]
  rw [place_stage, bin_stage]
  rfl

theorem cmpi_bin (j : Fin 16) (t : EReal) :
    IntOp.cmpi .eq (BitVec.ofNat 32 j) (binW t) = BitVec.ofBool (decide (j = (bin t).castSucc)) := by
  rw [binW_eq]
  generalize bin t = i
  simp only [IntOp.cmpi]
  rw [← ofNat_inj_small (n := 16) (by norm_num)]
  rfl

theorem cmpi_bin_succ (j : Fin 16) (t : EReal) :
    IntOp.cmpi .eq (BitVec.ofNat 32 j) (IntOp.addi (binW t) 1#32) = BitVec.ofBool (decide (j = (bin t).succ)) := by
  rw [binW_eq]
  generalize bin t = i
  have h : IntOp.addi (BitVec.ofNat 32 i) 1#32 = BitVec.ofNat 32 i.succ := by revert i; decide
  rw [h]
  simp only [IntOp.cmpi]
  rw [← ofNat_inj_small (n := 16) (by norm_num)]

theorem dfl_stage :
    k0_pay66 (F := Ideal) (k0_pay98 x0 x1 x2 x3 x4 x5) (k0_pay60 (View.ld x2 r0_4))
      (k0_pay62 (k0_pay100 x0 x1 x2 x3 x4 x5) (k0_pay101 x0 x1 x2 x3 x4 x5) (k0_pay102 x0 x1 x2 x3 x4 x5) (k0_pay103 x0 x1 x2 x3 x4 x5))
      (k0_pay63 (k0_pay100 x0 x1 x2 x3 x4 x5) (k0_pay101 x0 x1 x2 x3 x4 x5) (k0_pay102 x0 x1 x2 x3 x4 x5) (k0_pay103 x0 x1 x2 x3 x4 x5))
      (k0_pay64 (k0_pay100 x0 x1 x2 x3 x4 x5) (k0_pay101 x0 x1 x2 x3 x4 x5) (k0_pay102 x0 x1 x2 x3 x4 x5) (k0_pay103 x0 x1 x2 x3 x4 x5))
      (k0_pay65 (View.ld x2 r0_4)) = -dflSum (kA x3) (kG x4) (kD x2) := by
  pointwise [k0_pay66, k0_pay65, k0_pay64, k0_pay60]
  simp only [bin_stage, share_stage, posF_stage, cmpi_bin, cmpi_bin_succ, select_hot, Finset.sum_ite_eq', Finset.mem_univ, if_true,
    zero_sub]
  rfl

theorem giou_stage :
    k0_pay75 (F := Ideal) (k0_pay98 x0 x1 x2 x3 x4 x5) (k0_pay100 x0 x1 x2 x3 x4 x5) (k0_pay101 x0 x1 x2 x3 x4 x5)
      (k0_pay102 x0 x1 x2 x3 x4 x5) (k0_pay103 x0 x1 x2 x3 x4 x5)
      (k0_pay70 (k0_pay78 x0 x1 x2 x3 x4 x5) (k0_pay80 x0 x1 x2 x3 x4 x5) (k0_pay87 x0 x1 x2 x3 x4 x5) (View.ld x1 r0_5))
      (k0_pay71 (k0_pay79 x0 x1 x2 x3 x4 x5) (k0_pay81 x0 x1 x2 x3 x4 x5) (k0_pay90 x0 x1 x2 x3 x4 x5) (View.ld x1 r0_5))
      (k0_pay72 (k0_pay78 x0 x1 x2 x3 x4 x5) (k0_pay80 x0 x1 x2 x3 x4 x5) (View.ld x1 r0_5))
      (k0_pay73 (k0_pay79 x0 x1 x2 x3 x4 x5) (k0_pay81 x0 x1 x2 x3 x4 x5) (View.ld x1 r0_5))
      (k0_pay74 (k0_pay78 x0 x1 x2 x3 x4 x5) (k0_pay80 x0 x1 x2 x3 x4 x5) (k0_pay87 x0 x1 x2 x3 x4 x5) (View.ld x1 r0_5))
      (Scalar.ofBits .f32 0x3F000000#32) = giouSum (kA x3) (kG x4) (kR x1) := by
  pointwise [k0_pay75, k0_pay74, k0_pay73, k0_pay72, k0_pay71, k0_pay70, k0_pay69, k0_pay68, k0_pay67, k0_pay81, k0_pay80, k0_pay79,
    k0_pay78, k0_pay8, k0_pay7, k0_pay6, k0_pay5, k0_pay2]
  simp only [target0_stage, target1_stage, target2_stage, target3_stage, posF_stage, cx_stage, cy_stage, Fin.sum_univ_one]
  rfl

theorem pos_sum_stage (a b c d : EReal) (z y : Fin 1) (k : Fin 8) :
    k0_pay1 (F := Ideal) a b c d (k0_pay76 (k0_pay98 x0 x1 x2 x3 x4 x5)) (ix3 z y k) =
      (![a, b, c, posSum (kA x3) (kG x4), d, a * 0, a * 0, a * 0] : Fin 8 → EReal) k := by
  pointwise [k0_pay1, k0_pay76]
  simp only [posF_stage, Fin.sum_univ_one]
  fin_cases k <;> simp [posSum]

/-- The image's five sums and the three spare places. -/
def row : Fin 8 → EReal :=
  ![qflSum (kA x3) (kG x4) (kL x5) (kX x0), labelSum (kA x3) (kG x4) (kL x5), -dflSum (kA x3) (kG x4) (kD x2),
    posSum (kA x3) (kG x4), giouSum (kA x3) (kG x4) (kR x1), qflSum (kA x3) (kG x4) (kL x5) (kX x0) * 0,
    qflSum (kA x3) (kG x4) (kL x5) (kX x0) * 0, qflSum (kA x3) (kG x4) (kL x5) (kX x0) * 0]

theorem out_stage (z y : Fin 1) (k : Fin 8) : out0_6 x0 x1 x2 x3 x4 x5 (ix3 z y k) = row x0 x1 x2 x3 x4 x5 k := by
  unfold out0_6
  rw [qfl_stage, label_sum_stage, dfl_stage, giou_stage]
  rw [View.canon_unit_zero (by decide)]
  exact pos_sum_stage x0 x1 x2 x3 x4 x5 _ _ _ _ z y k

end Cert.Proof
end
-- ==== Proof.KernelRun.lean ====
/- The kernel's run: the loss it leaves, over the launch arguments. -/
module

public import proofs.«01_k».proof.Proof.KernelSums
public import proofs.«01_k».proof.Proof.Loss
public import Idealize.ShloMosaic.Lib.Pipeline.ValueKit.Geometry
public import Idealize.ShloMosaic.Lib.StableHlo.ReadAt

@[expose] public section

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

abbrev arg0 : Vec Ideal S4x20000x10 .f32 := m ((c : Thread nD τ).loc main_arg0)
abbrev arg1 : Vec Ideal S4x20000x4 .f32 := m ((c : Thread nD τ).loc main_arg1)
abbrev arg2 : Vec Ideal S4x20000x64 .f32 := m ((c : Thread nD τ).loc main_arg2)
abbrev arg3 : Vec Ideal S20000x4 .f32 := m ((c : Thread nD τ).loc main_arg3)
abbrev arg4 : Vec Ideal S4x32x4 .f32 := m ((c : Thread nD τ).loc main_arg4)
abbrev arg5 : Vec Ideal S4x32 .i32 := m ((c : Thread nD τ).loc main_arg5)

/-! The arrays the blocks are cut from. -/

theorem V_v0 (b : Fin 4) (k : Fin 10) (n : Fin 20000) :
    (V m c main_call0_v0 : Vec Ideal S4x10x20000 .f32) (ix3 b k n) = arg0 m c (ix3 b n k) := by
  unfold V V0
  simp only [hostOps0, List.flatten_cons, List.flatten_nil, List.append_nil]
  after_reads_at

theorem V_v1 (b : Fin 4) (k : Fin 4) (n : Fin 20000) :
    (V m c main_call0_v1 : Vec Ideal S4x4x20000 .f32) (ix3 b k n) = arg1 m c (ix3 b n k) := by
  unfold V V0
  simp only [hostOps0, List.flatten_cons, List.flatten_nil, List.append_nil]
  after_reads_at

theorem V_v3 (b : Fin 4) (k : Fin 4) (j : Fin 16) (n : Fin 20000) :
    (V m c main_call0_v3 : Vec Ideal S4x4x16x20000 .f32) (ix4 b k j n) = arg2 m c (ix3 b n ⟨(k : ℕ) * 16 + j, by omega⟩) := by
  unfold V V0
  simp only [hostOps0, List.flatten_cons, List.flatten_nil, List.append_nil]
  after_reads_at
  try rfl

theorem V_v4 (k : Fin 4) (n : Fin 20000) :
    (V m c main_call0_v4 : Vec Ideal S4x20000 .f32) (ix2 k n) = arg3 m c (ix2 n k) := by
  unfold V V0
  simp only [hostOps0, List.flatten_cons, List.flatten_nil, List.append_nil]
  after_reads_at

theorem V_v5 (b : Fin 4) (i : Fin 32) (z : Fin 1) :
    (V m c main_call0_v5 : Vec Ideal S4x32x1 .i32) (ix3 b i z) = arg5 m c (ix2 b i) := by
  unfold V V0
  simp only [hostOps0, List.flatten_cons, List.flatten_nil, List.append_nil]
  after_reads_at

/-! The blocks of a grid point. -/

theorem e0 : ∀ t : Fin cfg0.N, win0_0.index t = ![t.val, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0, 0] := (by decide +kernel : ∀ t : Fin grid0.N, _)
theorem e5 : ∀ t : Fin cfg0.N, win0_5.index t = ![t.val, 0, 0] := (by decide +kernel : ∀ t : Fin grid0.N, _)
theorem e6 : ∀ t : Fin cfg0.N, win0_6.index t = ![t.val, 0, 0] := (by decide +kernel : ∀ t : Fin grid0.N, _)

/-- The image a grid point works on. -/
def im (t : Fin cfg0.N) : Fin 4 := ⟨t.val, by have := t.isLt; have h : cfg0.N = 4 := N_0; omega⟩

theorem blk0 (t : Fin cfg0.N) : kX (iblk m c 0 t) = aX (arg0 m c) (im t) := by
  funext n k
  unfold kX aX
  rw [← V_v0]
  blk_simp [iblk]
  refine congrArg _ ?_
  blk_ext [e0, im]

theorem blk1 (t : Fin cfg0.N) : kR (iblk m c 1 t) = aR (arg1 m c) (im t) := by
  funext n k
  unfold kR aR
  rw [← V_v1]
  blk_simp [iblk]
  refine congrArg _ ?_
  blk_ext [e1, im]

theorem blk2 (t : Fin cfg0.N) : kD (iblk m c 2 t) = aD (arg2 m c) (im t) := by
  funext n k j
  unfold kD aD
  rw [← V_v3]
  blk_simp [iblk]
  refine congrArg _ ?_
  blk_ext [e2, im]

theorem blk3 (t : Fin cfg0.N) : kA (iblk m c 3 t) = aA (arg3 m c) := by
  funext n k
  unfold kA aA
  rw [← V_v4]
  blk_simp [iblk]
  refine congrArg _ ?_
  blk_ext [e3]

theorem blk4 (t : Fin cfg0.N) : kG (iblk m c 4 t) = aG (arg4 m c) (im t) := by
  funext i k
  unfold kG aG
  rw [show arg4 m c = (V m c main_arg4 : Vec Ideal S4x32x4 .f32) from (V_main_arg4 m c).symm]
  blk_simp [iblk]
  refine congrArg _ ?_
  blk_ext [e4, im]

theorem blk5 (t : Fin cfg0.N) : kL (iblk m c 5 t) = aL (arg5 m c) (im t) := by
  funext i
  unfold kL aL
  rw [← V_v5 m c _ _ 0]
  blk_simp [iblk]
  refine congrArg _ ?_
  blk_ext [e5, im]

/-- An image's eight sums over the launch arguments. -/
def sums (b : Fin 4) : Fin 8 → EReal :=
  ![qflSum (aA (arg3 m c)) (aG (arg4 m c) b) (aL (arg5 m c) b) (aX (arg0 m c) b),
    labelSum (aA (arg3 m c)) (aG (arg4 m c) b) (aL (arg5 m c) b),
    -dflSum (aA (arg3 m c)) (aG (arg4 m c) b) (aD (arg2 m c) b),
    posSum (aA (arg3 m c)) (aG (arg4 m c) b),
    giouSum (aA (arg3 m c)) (aG (arg4 m c) b) (aR (arg1 m c) b),
    qflSum (aA (arg3 m c)) (aG (arg4 m c) b) (aL (arg5 m c) b) (aX (arg0 m c) b) * 0,
    qflSum (aA (arg3 m c)) (aG (arg4 m c) b) (aL (arg5 m c) b) (aX (arg0 m c) b) * 0,
    qflSum (aA (arg3 m c)) (aG (arg4 m c) b) (aL (arg5 m c) b) (aX (arg0 m c) b) * 0]

def sumsArr : Vec Ideal S4x1x8 .f32 := fun y => sums m c (y 0) (y 2)

theorem final6 : (dats m 0 c).arrAt 6 cfg0.N = sumsArr m c := by
  refine (dats m 0 c).arrAt_eq_of_covers 6 _ (by decide +kernel) fun t hf y => ?_
  blk_simp
  rw [after0_6]
  refine (congrArg _ (ix3_eta y).symm).trans ((out_stage _ _ _ _ _ _ _ _ _).trans ?_)
  unfold row sumsArr
  rw [blk0, blk1, blk2, blk3, blk4, blk5]
  have h0 : (y 0).val < 1 := (y 0).isLt
  refine congrArg₂ (sums m c) (Fin.ext ?_) (Fin.ext ?_)
  · blk_simp [e6, im]
  · blk_simp [e6]

/-- The loss over the launch arguments. -/
abbrev lossAt : EReal :=
  loss (aA (arg3 m c)) (aG (arg4 m c)) (aL (arg5 m c)) (aX (arg0 m c)) (aD (arg2 m c)) (aR (arg1 m c))

theorem tail :
    (Pipeline.afterTail₀ cfgs (dats m) 0 (V0 m) [hostOps1] c main_v0 : Vec Ideal S_ .f32) = fun _ => lossAt m c := by
  funext i
  unfold Pipeline.afterTail₀
  simp only [hostOps1, List.flatten_cons, List.flatten_nil, List.append_nil]
  after_reads_at
  have h : Pipeline.withArrays (cfgs 0).spec c (V0 m c) (fun w => (dats m 0 c).arrAt w (cfgs 0).N)
      (Proc.tc.devRef main_call0_v6) = sumsArr m c :=
    (Pipeline.withArrays_arr spec0 (by decide) c (V0 m c) (fun w => (dats m 0 c).arrAt w (cfgs 0).N) 6).trans (final6 m c)
  rw [h]
  have hs (b : Fin 4) (k : Fin 8) : sumsArr m c (ix3 b (0 : Fin 1) k) = sums m c b k := rfl
  simp only [hs]
  unfold lossAt loss
  unfold sums
  simp only [Matrix.cons_val]

/-- The kernel's run leaves the loss in its result and the arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = (fun _ => lossAt m c : Vec Ideal S_ .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v0 (Pipeline.mem_restRefs_of main_v0 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.Proof

end
-- ==== Proof.Value.lean ====
/- The kernel's loss is the reference's. -/
module

public import proofs.«01_k».proof.Proof.RefTotal
public import proofs.«01_k».proof.Proof.Bounds
public import proofs.«01_k».proof.Proof.KernelRun

@[expose] public section

noncomputable section

namespace Cert.Proof

open Idealize.ShloMosaic Idealize.ShloMosaic.StableHlo Cert.ReferenceIdeal Cert.ReferenceIdeal.Gen Cert.ReferenceIdeal.Value

attribute [local instance] preFacts

/-- What the reference returns on a valuation that meets the precondition. -/
theorem total_eq (V : Valuation τ sig (Elt Ideal))
    (h : (Cert.Pre_boxes_below_mask.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5))).1 = (fun _ => 1#1)
      ∧ (Cert.Pre_boxes_below_mask.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5))).2 = (fun _ => 1#1)) :
    total V = fun _ => loss (rA V) (rG V) (rL V) (rX V) (rD V) (rR V) := by
  have hA := anchors_small _ _ _ _ _ _ h.1
  have hG := boxes_small _ _ _ _ _ _ h.2
  funext i
  rw [show i = ix0 from funext fun a => a.elim0]
  refine total_at V (fun b i n => dist_lt _ _ (hA n) (hG b i)) (fun n k => ?_)
  obtain ⟨r, hr, -⟩ := hA n k
  exact ⟨r, hr⟩

theorem algebraic : Cert.algebraic_KernelIdeal_ReferenceIdeal_pre_boxes_below_mask := by
  intro m ρ m' ρ' hpre hagree
  refine ⟨fun c => (fun _ => lossAt m c : Vec Ideal Cert.KernelIdeal.S_ .f32), kernel_run m ρ, ?_⟩
  refine (θ_run (Cert.ReferenceIdeal.defs (F := Ideal)) _ _).mono (fun r h c => ⟨(h c).1.trans ?_, (h c).2⟩)
    (Cert.ReferenceIdeal.Value.run (F := Ideal) m' ρ')
  have hc := hpre c
  obtain ⟨g0, g1, g2, g3, g4, g5⟩ := hagree c
  rw [← g0, ← g1, ← g2, ← g3, ← g4, ← g5] at hc
  have ht := total_eq (launchContents m' c) hc
  have hl : lossAt m c = loss (rA (launchContents m' c)) (rG (launchContents m' c)) (rL (launchContents m' c)) (rX (launchContents m' c))
      (rD (launchContents m' c)) (rR (launchContents m' c)) := by
    show loss (aA (m ((c.tc : Thread Cert.KernelIdeal.nD Cert.KernelIdeal.τ).loc Cert.KernelIdeal.main_arg3)))
      (aG (m ((c.tc : Thread Cert.KernelIdeal.nD Cert.KernelIdeal.τ).loc Cert.KernelIdeal.main_arg4)))
      (aL (m ((c.tc : Thread Cert.KernelIdeal.nD Cert.KernelIdeal.τ).loc Cert.KernelIdeal.main_arg5)))
      (aX (m ((c.tc : Thread Cert.KernelIdeal.nD Cert.KernelIdeal.τ).loc Cert.KernelIdeal.main_arg0)))
      (aD (m ((c.tc : Thread Cert.KernelIdeal.nD Cert.KernelIdeal.τ).loc Cert.KernelIdeal.main_arg2)))
      (aR (m ((c.tc : Thread Cert.KernelIdeal.nD Cert.KernelIdeal.τ).loc Cert.KernelIdeal.main_arg1))) = _
    rw [← g0, ← g1, ← g2, ← g3, ← g4, ← g5]
  exact ht.trans (funext fun _ => hl.symm)

end Cert.Proof

end
-- ==== Proof.lean ====
/- The claims: the frames, the kernel's own text, and that its loss is the reference's. -/
module

public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, preFacts, frame_k, frame_ki, frame_ki_pre, frame_ri,
    frame_ri_pre, trivial, algebraic⟩

end Cert.Proof

end
